-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_short_KernelIdeal [hPre_short_KernelIdeal : Cert.Pre_short_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_short_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_short_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_short_ClippedIdeal [hPre_short_ClippedIdeal : Cert.Pre_short_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_short_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))).1 = (fun _ => 1#1)
    ∧ (Cert.Pre_short_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_short_KernelIdeal [hKernelIdeal : Cert.KernelIdeal.Facts] [hPre_short_KernelIdeal : Cert.Pre_short_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_short_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_short_ClippedIdeal [hClippedIdeal : Cert.ClippedIdeal.Facts] [hPre_short_ClippedIdeal : Cert.Pre_short_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_short_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_short_KernelIdeal [hKernelIdeal : Cert.KernelIdeal.Facts] [hClippedIdeal : Cert.ClippedIdeal.Facts] [hPre_short_KernelIdeal : Cert.Pre_short_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_short_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v8) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_short_KernelIdeal : Cert.Pre_short_KernelIdeal.Facts) (hPre_short_ClippedIdeal : Cert.Pre_short_ClippedIdeal.Facts),
    quiescent_Kernel (hKernel := hKernel)
    ∧ quiescent_KernelIdeal (hKernelIdeal := hKernelIdeal)
    ∧ quiescent_KernelIdeal_pre_short_KernelIdeal (hKernelIdeal := hKernelIdeal) (hPre_short_KernelIdeal := hPre_short_KernelIdeal)
    ∧ quiescent_ReferenceIdeal (hReferenceIdeal := hReferenceIdeal)
    ∧ quiescent_ClippedIdeal (hClippedIdeal := hClippedIdeal)
    ∧ quiescent_ClippedIdeal_pre_short_ClippedIdeal (hClippedIdeal := hClippedIdeal) (hPre_short_ClippedIdeal := hPre_short_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_short_KernelIdeal (hKernelIdeal := hKernelIdeal) (hClippedIdeal := hClippedIdeal) (hPre_short_KernelIdeal := hPre_short_KernelIdeal)
-- ==== Pre_short_ClippedIdeal.lean ====
abbrev S1024x1024 : Shape := ⟨2, ![1024, 1024]⟩
abbrev S_ : Shape := ⟨0, ![]⟩
abbrev S1024 : Shape := ⟨1, ![1024]⟩

class Facts : Prop where
  bitsLt_bf16_f32 : FTy.bits .bf16 < FTy.bits .f32
  reducesTo_S1024x1024_S1024_d1 : S1024x1024.ReducesTo [1] S1024
  h_S_ : 0 < S_.numel
  reducesTo_S1024x1024_S1024_d0 : S1024x1024.ReducesTo [0] S1024
  bcast_S_S1024 : S_.BroadcastsInDim S1024 (![] : Fin 0 → Fin S1024.rank)

variable [Facts]

def fn {F : FTy → Type} [FloatOps F] (main_arg0 : FVec F S1024x1024 .bf16) (main_arg1 : FVec F S1024x1024 .bf16) : IVec S1024 1 × IVec S1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := mulf main_v0 main_v0
  let main_cst : FVec F S_ .f32 := constant S_ .f32 0x00000000#32
  let main_v3 : FVec F S1024 .f32 := (fun x v => Host.reduceAdd x v reducesTo_S1024x1024_S1024_d1 h_S_) main_v2 main_cst
  let main_v4 : FVec F S1024x1024 .f32 := mulf main_v1 main_v1
  let main_cst_0 : FVec F S_ .f32 := constant S_ .f32 0x00000000#32
  let main_v5 : FVec F S1024 .f32 := (fun x v => Host.reduceAdd x v reducesTo_S1024x1024_S1024_d0 h_S_) main_v4 main_cst_0
  let main_cst_1 : FVec F S_ .f32 := constant S_ .f32 0x44C80000#32
  let main_v6 : FVec F S1024 .f32 := broadcastInDim S1024 ![] bcast_S_S1024 main_cst_1
  let main_v7 : IVec S1024 1 := cmpf .ole main_v3 main_v6
  let main_cst_2 : FVec F S_ .f32 := constant S_ .f32 0x40100000#32
  let main_v8 : FVec F S1024 .f32 := broadcastInDim S1024 ![] bcast_S_S1024 main_cst_2
  let main_v9 : IVec S1024 1 := cmpf .ole main_v5 main_v8
  (main_v7, main_v9)
-- ==== Pre_short_KernelIdeal.lean ====
abbrev S64x1024 : Shape := ⟨2, ![64, 1024]⟩
abbrev S1024x64 : Shape := ⟨2, ![1024, 64]⟩
abbrev S_ : Shape := ⟨0, ![]⟩
abbrev S64 : Shape := ⟨1, ![64]⟩

class Facts : Prop where
  bitsLt_bf16_f32 : FTy.bits .bf16 < FTy.bits .f32
  reducesTo_S64x1024_S64_d1 : S64x1024.ReducesTo [1] S64
  h_S_ : 0 < S_.numel
  reducesTo_S1024x64_S64_d0 : S1024x64.ReducesTo [0] S64
  bcast_S_S64 : S_.BroadcastsInDim S64 (![] : Fin 0 → Fin S64.rank)

variable [Facts]

def fn {F : FTy → Type} [FloatOps F] (main_arg0 : FVec F S64x1024 .bf16) (main_arg1 : FVec F S1024x64 .bf16) : IVec S64 1 × IVec S64 1 :=
  let main_v0 : FVec F S64x1024 .f32 := (extf .f32 · bitsLt_bf16_f32) main_arg0
  let main_v1 : FVec F S1024x64 .f32 := (extf .f32 · bitsLt_bf16_f32) main_arg1
  let main_v2 : FVec F S64x1024 .f32 := mulf main_v0 main_v0
  let main_cst : FVec F S_ .f32 := constant S_ .f32 0x00000000#32
  let main_v3 : FVec F S64 .f32 := (fun x v => Host.reduceAdd x v reducesTo_S64x1024_S64_d1 h_S_) main_v2 main_cst
  let main_v4 : FVec F S1024x64 .f32 := mulf main_v1 main_v1
  let main_cst_0 : FVec F S_ .f32 := constant S_ .f32 0x00000000#32
  let main_v5 : FVec F S64 .f32 := (fun x v => Host.reduceAdd x v reducesTo_S1024x64_S64_d0 h_S_) main_v4 main_cst_0
  let main_cst_1 : FVec F S_ .f32 := constant S_ .f32 0x44C80000#32
  let main_v6 : FVec F S64 .f32 := broadcastInDim S64 ![] bcast_S_S64 main_cst_1
  let main_v7 : IVec S64 1 := cmpf .ole main_v3 main_v6
  let main_cst_2 : FVec F S_ .f32 := constant S_ .f32 0x40100000#32
  let main_v8 : FVec F S64 .f32 := broadcastInDim S64 ![] bcast_S_S64 main_cst_2
  let main_v9 : IVec S64 1 := cmpf .ole main_v5 main_v8
  (main_v7, main_v9)
-- ==== Kernel.lean ====
abbrev S64x1024 : Shape := ⟨2, ![64, 1024]⟩
abbrev S1024x64 : Shape := ⟨2, ![1024, 64]⟩
abbrev S16x64x1024 : Shape := ⟨3, ![16, 64, 1024]⟩
abbrev S15x4 : Shape := ⟨2, ![15, 4]⟩
abbrev S16x4 : Shape := ⟨2, ![16, 4]⟩
abbrev S1x64x1024 : Shape := ⟨3, ![1, 64, 1024]⟩
abbrev S_ : Shape := ⟨0, ![]⟩
abbrev S1x1 : Shape := ⟨2, ![1, 1]⟩
abbrev S1x16x1024 : Shape := ⟨3, ![1, 16, 1024]⟩
abbrev S16x1024 : Shape := ⟨2, ![16, 1024]⟩
abbrev S64x64 : Shape := ⟨2, ![64, 64]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .bf16⟩
  | .hbm, ⟨1, _⟩ => ⟨S1024x64, .bf16⟩
  | .hbm, ⟨2, _⟩ => ⟨S1024x64, .f32⟩
  | .local _ .vmem, ⟨0, _⟩ => ⟨S64x1024, .bf16⟩
  | .local _ .vmem, ⟨1, _⟩ => ⟨S1024x64, .bf16⟩
  | .local _ .vmem, ⟨2, _⟩ => ⟨S1024x64, .f32⟩
  | .local _ .vmem, ⟨3, _⟩ => ⟨S16x64x1024, .bf16⟩
  | .local _ .vmem, ⟨4, _⟩ => ⟨S1024x64, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_98 : BitVec 32 := 1#32
  let v179 : BitVec 32 := Scalar.muli v81 c1_i32_98
  let v180 : BitVec 32 := Scalar.addi c0_i32_99 v179
  v180.toNat
def k0_dev2 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_101 : BitVec 32 := 1#32
  let v181 : BitVec 32 := Scalar.muli v124 c1_i32_101
  let v182 : BitVec 32 := Scalar.addi c0_i32_102 v181
  v182.toNat
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c8_i32_63 : BitVec 32 := 8#32
  let v125 : BitVec 32 := Scalar.addi v38 c8_i32_63
  let c32_i32_64 : BitVec 32 := 32#32
  let v126 : BitVec 32 := Scalar.addi v125 c32_i32_64
  let c16_i32_65 : BitVec 32 := 16#32
  let v127 : BitVec 32 := Scalar.remsi v126 c16_i32_65
  let c0_i32_67 : BitVec 32 := 0#32
  let v129 : BitVec 1 := Scalar.cmpi .sgt v127 c0_i32_67
  let v130 : BitVec 32 := Scalar.extui v129
  let c0_i32_68 : BitVec 32 := 0#32
  let v131 : BitVec 1 := Scalar.cmpi .slt v127 c0_i32_68
  let v132 : BitVec 32 := Scalar.extui v131
  let v133 : BitVec 32 := Scalar.subi v130 v132
  let c4_i32_66 : BitVec 32 := 4#32
  let c0_i32_69 : BitVec 32 := 0#32
  let v134 : BitVec 1 := Scalar.cmpi .sgt c4_i32_66 c0_i32_69
  let v135 : BitVec 32 := Scalar.extui v134
  let c0_i32_70 : BitVec 32 := 0#32
  let v136 : BitVec 1 := Scalar.cmpi .slt c4_i32_66 c0_i32_70
  let v137 : BitVec 32 := Scalar.extui v136
  let v138 : BitVec 32 := Scalar.subi v135 v137
  let v139 : BitVec 1 := Scalar.cmpi .ne v133 v138
  let v140 : BitVec 32 := Scalar.remsi v127 c4_i32_66
  let c0_i32_71 : BitVec 32 := 0#32
  let v141 : BitVec 1 := Scalar.cmpi .ne v140 c0_i32_71
  let v142 : BitVec 1 := Scalar.andi v139 v141
  let v128 : BitVec 32 := Scalar.divsi v127 c4_i32_66
  let c1_i32_72 : BitVec 32 := 1#32
  let v143 : BitVec 32 := Scalar.subi v128 c1_i32_72
  let v144 : BitVec 32 := Scalar.select v142 v143 v128
  let c0_i32_79 : BitVec 32 := 0#32
  let v155 : BitVec 1 := Scalar.cmpi .eq v144 c0_i32_79
  let c4_i32_80 : BitVec 32 := 4#32
  let c4_i32_73 : BitVec 32 := 4#32
  let c0_i32_74 : BitVec 32 := 0#32
  let v145 : BitVec 1 := Scalar.cmpi .eq c4_i32_73 c0_i32_74
  let c1_i32_75 : BitVec 32 := 1#32
  let v146 : BitVec 32 := Scalar.select v145 c1_i32_75 c4_i32_73
  let v147 : BitVec 32 := Scalar.remsi v127 v146
  let c0_i32_77 : BitVec 32 := 0#32
  let v149 : BitVec 1 := Scalar.cmpi .slt v147 c0_i32_77
  let c0_i32_78 : BitVec 32 := 0#32
  let v150 : BitVec 1 := Scalar.cmpi .slt v146 c0_i32_78
  let v151 : BitVec 1 := Scalar.xori v149 v150
  let c0_i32_76 : BitVec 32 := 0#32
  let v148 : BitVec 1 := Scalar.cmpi .ne v147 c0_i32_76
  let v152 : BitVec 1 := Scalar.andi v151 v148
  let v153 : BitVec 32 := Scalar.addi v147 v146
  let v154 : BitVec 32 := Scalar.select v152 v153 v147
  let v156 : BitVec 32 := Scalar.muli c4_i32_80 v154
  let c1_i32_81 : BitVec 32 := 1#32
  let v157 : BitVec 1 := Scalar.cmpi .eq v144 c1_i32_81
  let c15_i32_83 : BitVec 32 := 15#32
  let c4_i32_82 : BitVec 32 := 4#32
  let v158 : BitVec 32 := Scalar.muli c4_i32_82 v154
  let v159 : BitVec 32 := Scalar.subi c15_i32_83 v158
  let c2_i32_84 : BitVec 32 := 2#32
  let v160 : BitVec 1 := Scalar.cmpi .eq v144 c2_i32_84
  let c4_i32_85 : BitVec 32 := 4#32
  let v161 : BitVec 32 := Scalar.muli c4_i32_85 v154
  let c2_i32_86 : BitVec 32 := 2#32
  let v162 : BitVec 32 := Scalar.addi v161 c2_i32_86
  let c13_i32_88 : BitVec 32 := 13#32
  let c4_i32_87 : BitVec 32 := 4#32
  let v163 : BitVec 32 := Scalar.muli c4_i32_87 v154
  let v164 : BitVec 32 := Scalar.subi c13_i32_88 v163
  let v165 : BitVec 32 := Scalar.select v160 v162 v164
  let v166 : BitVec 32 := Scalar.select v157 v159 v165
  let v167 : BitVec 32 := Scalar.select v155 v156 v166
  let c1_i32_104 : BitVec 32 := 1#32
  let v183 : BitVec 32 := Scalar.muli v167 c1_i32_104
  let v184 : BitVec 32 := Scalar.addi c0_i32_105 v183
  v184.toNat
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c8_i32_63 : BitVec 32 := 8#32
  let v125 : BitVec 32 := Scalar.addi v38 c8_i32_63
  let c32_i32_64 : BitVec 32 := 32#32
  let v126 : BitVec 32 := Scalar.addi v125 c32_i32_64
  let c16_i32_65 : BitVec 32 := 16#32
  let v127 : BitVec 32 := Scalar.remsi v126 c16_i32_65
  let c0_i32_67 : BitVec 32 := 0#32
  let v129 : BitVec 1 := Scalar.cmpi .sgt v127 c0_i32_67
  let v130 : BitVec 32 := Scalar.extui v129
  let c0_i32_68 : BitVec 32 := 0#32
  let v131 : BitVec 1 := Scalar.cmpi .slt v127 c0_i32_68
  let v132 : BitVec 32 := Scalar.extui v131
  let v133 : BitVec 32 := Scalar.subi v130 v132
  let c4_i32_66 : BitVec 32 := 4#32
  let c0_i32_69 : BitVec 32 := 0#32
  let v134 : BitVec 1 := Scalar.cmpi .sgt c4_i32_66 c0_i32_69
  let v135 : BitVec 32 := Scalar.extui v134
  let c0_i32_70 : BitVec 32 := 0#32
  let v136 : BitVec 1 := Scalar.cmpi .slt c4_i32_66 c0_i32_70
  let v137 : BitVec 32 := Scalar.extui v136
  let v138 : BitVec 32 := Scalar.subi v135 v137
  let v139 : BitVec 1 := Scalar.cmpi .ne v133 v138
  let v140 : BitVec 32 := Scalar.remsi v127 c4_i32_66
  let c0_i32_71 : BitVec 32 := 0#32
  let v141 : BitVec 1 := Scalar.cmpi .ne v140 c0_i32_71
  let v142 : BitVec 1 := Scalar.andi v139 v141
  let v128 : BitVec 32 := Scalar.divsi v127 c4_i32_66
  let c1_i32_72 : BitVec 32 := 1#32
  let v143 : BitVec 32 := Scalar.subi v128 c1_i32_72
  let v144 : BitVec 32 := Scalar.select v142 v143 v128
  let c0_i32_79 : BitVec 32 := 0#32
  let v155 : BitVec 1 := Scalar.cmpi .eq v144 c0_i32_79
  let c4_i32_80 : BitVec 32 := 4#32
  let c4_i32_73 : BitVec 32 := 4#32
  let c0_i32_74 : BitVec 32 := 0#32
  let v145 : BitVec 1 := Scalar.cmpi .eq c4_i32_73 c0_i32_74
  let c1_i32_75 : BitVec 32 := 1#32
  let v146 : BitVec 32 := Scalar.select v145 c1_i32_75 c4_i32_73
  let v147 : BitVec 32 := Scalar.remsi v127 v146
  let c0_i32_77 : BitVec 32 := 0#32
  let v149 : BitVec 1 := Scalar.cmpi .slt v147 c0_i32_77
  let c0_i32_78 : BitVec 32 := 0#32
  let v150 : BitVec 1 := Scalar.cmpi .slt v146 c0_i32_78
  let v151 : BitVec 1 := Scalar.xori v149 v150
  let c0_i32_76 : BitVec 32 := 0#32
  let v148 : BitVec 1 := Scalar.cmpi .ne v147 c0_i32_76
  let v152 : BitVec 1 := Scalar.andi v151 v148
  let v153 : BitVec 32 := Scalar.addi v147 v146
  let v154 : BitVec 32 := Scalar.select v152 v153 v147
  let v156 : BitVec 32 := Scalar.muli c4_i32_80 v154
  let c1_i32_81 : BitVec 32 := 1#32
  let v157 : BitVec 1 := Scalar.cmpi .eq v144 c1_i32_81
  let c15_i32_83 : BitVec 32 := 15#32
  let c4_i32_82 : BitVec 32 := 4#32
  let v158 : BitVec 32 := Scalar.muli c4_i32_82 v154
  let v159 : BitVec 32 := Scalar.subi c15_i32_83 v158
  let c2_i32_84 : BitVec 32 := 2#32
  let v160 : BitVec 1 := Scalar.cmpi .eq v144 c2_i32_84
  let c4_i32_85 : BitVec 32 := 4#32
  let v161 : BitVec 32 := Scalar.muli c4_i32_85 v154
  let c2_i32_86 : BitVec 32 := 2#32
  let v162 : BitVec 32 := Scalar.addi v161 c2_i32_86
  let c13_i32_88 : BitVec 32 := 13#32
  let c4_i32_87 : BitVec 32 := 4#32
  let v163 : BitVec 32 := Scalar.muli c4_i32_87 v154
  let v164 : BitVec 32 := Scalar.subi c13_i32_88 v163
  let v165 : BitVec 32 := Scalar.select v160 v162 v164
  let v166 : BitVec 32 := Scalar.select v157 v159 v165
  let v167 : BitVec 32 := Scalar.select v155 v156 v166
  let c1_i32_112 : BitVec 32 := 1#32
  let v185 : BitVec 32 := Scalar.muli v167 c1_i32_112
  let v186 : BitVec 32 := Scalar.addi c0_i32_113 v185
  v186.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_124 : BitVec 32 := 1#32
  let v195 : BitVec 32 := Scalar.muli v124 c1_i32_124
  let v196 : BitVec 32 := Scalar.addi c0_i32_125 v195
  v196.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_135 : BitVec 32 := 1#32
  let v205 : BitVec 32 := Scalar.muli v81 c1_i32_135
  let v206 : BitVec 32 := Scalar.addi c0_i32_136 v205
  v206.toNat
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c8_i32_63 : BitVec 32 := 8#32
  let v125 : BitVec 32 := Scalar.addi v38 c8_i32_63
  let c32_i32_64 : BitVec 32 := 32#32
  let v126 : BitVec 32 := Scalar.addi v125 c32_i32_64
  let c16_i32_65 : BitVec 32 := 16#32
  let v127 : BitVec 32 := Scalar.remsi v126 c16_i32_65
  let c0_i32_67 : BitVec 32 := 0#32
  let v129 : BitVec 1 := Scalar.cmpi .sgt v127 c0_i32_67
  let v130 : BitVec 32 := Scalar.extui v129
  let c0_i32_68 : BitVec 32 := 0#32
  let v131 : BitVec 1 := Scalar.cmpi .slt v127 c0_i32_68
  let v132 : BitVec 32 := Scalar.extui v131
  let v133 : BitVec 32 := Scalar.subi v130 v132
  let c4_i32_66 : BitVec 32 := 4#32
  let c0_i32_69 : BitVec 32 := 0#32
  let v134 : BitVec 1 := Scalar.cmpi .sgt c4_i32_66 c0_i32_69
  let v135 : BitVec 32 := Scalar.extui v134
  let c0_i32_70 : BitVec 32 := 0#32
  let v136 : BitVec 1 := Scalar.cmpi .slt c4_i32_66 c0_i32_70
  let v137 : BitVec 32 := Scalar.extui v136
  let v138 : BitVec 32 := Scalar.subi v135 v137
  let v139 : BitVec 1 := Scalar.cmpi .ne v133 v138
  let v140 : BitVec 32 := Scalar.remsi v127 c4_i32_66
  let c0_i32_71 : BitVec 32 := 0#32
  let v141 : BitVec 1 := Scalar.cmpi .ne v140 c0_i32_71
  let v142 : BitVec 1 := Scalar.andi v139 v141
  let v128 : BitVec 32 := Scalar.divsi v127 c4_i32_66
  let c1_i32_72 : BitVec 32 := 1#32
  let v143 : BitVec 32 := Scalar.subi v128 c1_i32_72
  let v144 : BitVec 32 := Scalar.select v142 v143 v128
  let c0_i32_79 : BitVec 32 := 0#32
  let v155 : BitVec 1 := Scalar.cmpi .eq v144 c0_i32_79
  let c4_i32_80 : BitVec 32 := 4#32
  let c4_i32_73 : BitVec 32 := 4#32
  let c0_i32_74 : BitVec 32 := 0#32
  let v145 : BitVec 1 := Scalar.cmpi .eq c4_i32_73 c0_i32_74
  let c1_i32_75 : BitVec 32 := 1#32
  let v146 : BitVec 32 := Scalar.select v145 c1_i32_75 c4_i32_73
  let v147 : BitVec 32 := Scalar.remsi v127 v146
  let c0_i32_77 : BitVec 32 := 0#32
  let v149 : BitVec 1 := Scalar.cmpi .slt v147 c0_i32_77
  let c0_i32_78 : BitVec 32 := 0#32
  let v150 : BitVec 1 := Scalar.cmpi .slt v146 c0_i32_78
  let v151 : BitVec 1 := Scalar.xori v149 v150
  let c0_i32_76 : BitVec 32 := 0#32
  let v148 : BitVec 1 := Scalar.cmpi .ne v147 c0_i32_76
  let v152 : BitVec 1 := Scalar.andi v151 v148
  let v153 : BitVec 32 := Scalar.addi v147 v146
  let v154 : BitVec 32 := Scalar.select v152 v153 v147
  let v156 : BitVec 32 := Scalar.muli c4_i32_80 v154
  let c1_i32_81 : BitVec 32 := 1#32
  let v157 : BitVec 1 := Scalar.cmpi .eq v144 c1_i32_81
  let c15_i32_83 : BitVec 32 := 15#32
  let c4_i32_82 : BitVec 32 := 4#32
  let v158 : BitVec 32 := Scalar.muli c4_i32_82 v154
  let v159 : BitVec 32 := Scalar.subi c15_i32_83 v158
  let c2_i32_84 : BitVec 32 := 2#32
  let v160 : BitVec 1 := Scalar.cmpi .eq v144 c2_i32_84
  let c4_i32_85 : BitVec 32 := 4#32
  let v161 : BitVec 32 := Scalar.muli c4_i32_85 v154
  let c2_i32_86 : BitVec 32 := 2#32
  let v162 : BitVec 32 := Scalar.addi v161 c2_i32_86
  let c13_i32_88 : BitVec 32 := 13#32
  let c4_i32_87 : BitVec 32 := 4#32
  let v163 : BitVec 32 := Scalar.muli c4_i32_87 v154
  let v164 : BitVec 32 := Scalar.subi c13_i32_88 v163
  let v165 : BitVec 32 := Scalar.select v160 v162 v164
  let v166 : BitVec 32 := Scalar.select v157 v159 v165
  let v167 : BitVec 32 := Scalar.select v155 v156 v166
  let c1_i32_147 : BitVec 32 := 1#32
  let v215 : BitVec 32 := Scalar.muli v167 c1_i32_147
  let v216 : BitVec 32 := Scalar.addi c0_i32_148 v215
  v216.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_159 : BitVec 32 := 1#32
  let v225 : BitVec 32 := Scalar.muli v124 c1_i32_159
  let v226 : BitVec 32 := Scalar.addi c0_i32_160 v225
  v226.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_171 : BitVec 32 := 1#32
  let v235 : BitVec 32 := Scalar.muli v81 c1_i32_171
  let v236 : BitVec 32 := Scalar.addi c0_i32_172 v235
  v236.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c8_i32_63 : BitVec 32 := 8#32
  let v125 : BitVec 32 := Scalar.addi v38 c8_i32_63
  let c32_i32_64 : BitVec 32 := 32#32
  let v126 : BitVec 32 := Scalar.addi v125 c32_i32_64
  let c16_i32_65 : BitVec 32 := 16#32
  let v127 : BitVec 32 := Scalar.remsi v126 c16_i32_65
  let c0_i32_67 : BitVec 32 := 0#32
  let v129 : BitVec 1 := Scalar.cmpi .sgt v127 c0_i32_67
  let v130 : BitVec 32 := Scalar.extui v129
  let c0_i32_68 : BitVec 32 := 0#32
  let v131 : BitVec 1 := Scalar.cmpi .slt v127 c0_i32_68
  let v132 : BitVec 32 := Scalar.extui v131
  let v133 : BitVec 32 := Scalar.subi v130 v132
  let c4_i32_66 : BitVec 32 := 4#32
  let c0_i32_69 : BitVec 32 := 0#32
  let v134 : BitVec 1 := Scalar.cmpi .sgt c4_i32_66 c0_i32_69
  let v135 : BitVec 32 := Scalar.extui v134
  let c0_i32_70 : BitVec 32 := 0#32
  let v136 : BitVec 1 := Scalar.cmpi .slt c4_i32_66 c0_i32_70
  let v137 : BitVec 32 := Scalar.extui v136
  let v138 : BitVec 32 := Scalar.subi v135 v137
  let v139 : BitVec 1 := Scalar.cmpi .ne v133 v138
  let v140 : BitVec 32 := Scalar.remsi v127 c4_i32_66
  let c0_i32_71 : BitVec 32 := 0#32
  let v141 : BitVec 1 := Scalar.cmpi .ne v140 c0_i32_71
  let v142 : BitVec 1 := Scalar.andi v139 v141
  let v128 : BitVec 32 := Scalar.divsi v127 c4_i32_66
  let c1_i32_72 : BitVec 32 := 1#32
  let v143 : BitVec 32 := Scalar.subi v128 c1_i32_72
  let v144 : BitVec 32 := Scalar.select v142 v143 v128
  let c0_i32_79 : BitVec 32 := 0#32
  let v155 : BitVec 1 := Scalar.cmpi .eq v144 c0_i32_79
  let c4_i32_80 : BitVec 32 := 4#32
  let c4_i32_73 : BitVec 32 := 4#32
  let c0_i32_74 : BitVec 32 := 0#32
  let v145 : BitVec 1 := Scalar.cmpi .eq c4_i32_73 c0_i32_74
  let c1_i32_75 : BitVec 32 := 1#32
  let v146 : BitVec 32 := Scalar.select v145 c1_i32_75 c4_i32_73
  let v147 : BitVec 32 := Scalar.remsi v127 v146
  let c0_i32_77 : BitVec 32 := 0#32
  let v149 : BitVec 1 := Scalar.cmpi .slt v147 c0_i32_77
  let c0_i32_78 : BitVec 32 := 0#32
  let v150 : BitVec 1 := Scalar.cmpi .slt v146 c0_i32_78
  let v151 : BitVec 1 := Scalar.xori v149 v150
  let c0_i32_76 : BitVec 32 := 0#32
  let v148 : BitVec 1 := Scalar.cmpi .ne v147 c0_i32_76
  let v152 : BitVec 1 := Scalar.andi v151 v148
  let v153 : BitVec 32 := Scalar.addi v147 v146
  let v154 : BitVec 32 := Scalar.select v152 v153 v147
  let v156 : BitVec 32 := Scalar.muli c4_i32_80 v154
  let c1_i32_81 : BitVec 32 := 1#32
  let v157 : BitVec 1 := Scalar.cmpi .eq v144 c1_i32_81
  let c15_i32_83 : BitVec 32 := 15#32
  let c4_i32_82 : BitVec 32 := 4#32
  let v158 : BitVec 32 := Scalar.muli c4_i32_82 v154
  let v159 : BitVec 32 := Scalar.subi c15_i32_83 v158
  let c2_i32_84 : BitVec 32 := 2#32
  let v160 : BitVec 1 := Scalar.cmpi .eq v144 c2_i32_84
  let c4_i32_85 : BitVec 32 := 4#32
  let v161 : BitVec 32 := Scalar.muli c4_i32_85 v154
  let c2_i32_86 : BitVec 32 := 2#32
  let v162 : BitVec 32 := Scalar.addi v161 c2_i32_86
  let c13_i32_88 : BitVec 32 := 13#32
  let c4_i32_87 : BitVec 32 := 4#32
  let v163 : BitVec 32 := Scalar.muli c4_i32_87 v154
  let v164 : BitVec 32 := Scalar.subi c13_i32_88 v163
  let v165 : BitVec 32 := Scalar.select v160 v162 v164
  let v166 : BitVec 32 := Scalar.select v157 v159 v165
  let v167 : BitVec 32 := Scalar.select v155 v156 v166
  let c1_i32_183 : BitVec 32 := 1#32
  let v245 : BitVec 32 := Scalar.muli v167 c1_i32_183
  let v246 : BitVec 32 := Scalar.addi c0_i32_184 v245
  v246.toNat
def k0_dev11 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_195 : BitVec 32 := 1#32
  let v255 : BitVec 32 := Scalar.muli v124 c1_i32_195
  let v256 : BitVec 32 := Scalar.addi c0_i32_196 v255
  v256.toNat
def k0_dev12 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_207 : BitVec 32 := 1#32
  let v265 : BitVec 32 := Scalar.muli v81 c1_i32_207
  let v266 : BitVec 32 := Scalar.addi c0_i32_208 v265
  v266.toNat
def k0_dev13 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c8_i32_63 : BitVec 32 := 8#32
  let v125 : BitVec 32 := Scalar.addi v38 c8_i32_63
  let c32_i32_64 : BitVec 32 := 32#32
  let v126 : BitVec 32 := Scalar.addi v125 c32_i32_64
  let c16_i32_65 : BitVec 32 := 16#32
  let v127 : BitVec 32 := Scalar.remsi v126 c16_i32_65
  let c0_i32_67 : BitVec 32 := 0#32
  let v129 : BitVec 1 := Scalar.cmpi .sgt v127 c0_i32_67
  let v130 : BitVec 32 := Scalar.extui v129
  let c0_i32_68 : BitVec 32 := 0#32
  let v131 : BitVec 1 := Scalar.cmpi .slt v127 c0_i32_68
  let v132 : BitVec 32 := Scalar.extui v131
  let v133 : BitVec 32 := Scalar.subi v130 v132
  let c4_i32_66 : BitVec 32 := 4#32
  let c0_i32_69 : BitVec 32 := 0#32
  let v134 : BitVec 1 := Scalar.cmpi .sgt c4_i32_66 c0_i32_69
  let v135 : BitVec 32 := Scalar.extui v134
  let c0_i32_70 : BitVec 32 := 0#32
  let v136 : BitVec 1 := Scalar.cmpi .slt c4_i32_66 c0_i32_70
  let v137 : BitVec 32 := Scalar.extui v136
  let v138 : BitVec 32 := Scalar.subi v135 v137
  let v139 : BitVec 1 := Scalar.cmpi .ne v133 v138
  let v140 : BitVec 32 := Scalar.remsi v127 c4_i32_66
  let c0_i32_71 : BitVec 32 := 0#32
  let v141 : BitVec 1 := Scalar.cmpi .ne v140 c0_i32_71
  let v142 : BitVec 1 := Scalar.andi v139 v141
  let v128 : BitVec 32 := Scalar.divsi v127 c4_i32_66
  let c1_i32_72 : BitVec 32 := 1#32
  let v143 : BitVec 32 := Scalar.subi v128 c1_i32_72
  let v144 : BitVec 32 := Scalar.select v142 v143 v128
  let c0_i32_79 : BitVec 32 := 0#32
  let v155 : BitVec 1 := Scalar.cmpi .eq v144 c0_i32_79
  let c4_i32_80 : BitVec 32 := 4#32
  let c4_i32_73 : BitVec 32 := 4#32
  let c0_i32_74 : BitVec 32 := 0#32
  let v145 : BitVec 1 := Scalar.cmpi .eq c4_i32_73 c0_i32_74
  let c1_i32_75 : BitVec 32 := 1#32
  let v146 : BitVec 32 := Scalar.select v145 c1_i32_75 c4_i32_73
  let v147 : BitVec 32 := Scalar.remsi v127 v146
  let c0_i32_77 : BitVec 32 := 0#32
  let v149 : BitVec 1 := Scalar.cmpi .slt v147 c0_i32_77
  let c0_i32_78 : BitVec 32 := 0#32
  let v150 : BitVec 1 := Scalar.cmpi .slt v146 c0_i32_78
  let v151 : BitVec 1 := Scalar.xori v149 v150
  let c0_i32_76 : BitVec 32 := 0#32
  let v148 : BitVec 1 := Scalar.cmpi .ne v147 c0_i32_76
  let v152 : BitVec 1 := Scalar.andi v151 v148
  let v153 : BitVec 32 := Scalar.addi v147 v146
  let v154 : BitVec 32 := Scalar.select v152 v153 v147
  let v156 : BitVec 32 := Scalar.muli c4_i32_80 v154
  let c1_i32_81 : BitVec 32 := 1#32
  let v157 : BitVec 1 := Scalar.cmpi .eq v144 c1_i32_81
  let c15_i32_83 : BitVec 32 := 15#32
  let c4_i32_82 : BitVec 32 := 4#32
  let v158 : BitVec 32 := Scalar.muli c4_i32_82 v154
  let v159 : BitVec 32 := Scalar.subi c15_i32_83 v158
  let c2_i32_84 : BitVec 32 := 2#32
  let v160 : BitVec 1 := Scalar.cmpi .eq v144 c2_i32_84
  let c4_i32_85 : BitVec 32 := 4#32
  let v161 : BitVec 32 := Scalar.muli c4_i32_85 v154
  let c2_i32_86 : BitVec 32 := 2#32
  let v162 : BitVec 32 := Scalar.addi v161 c2_i32_86
  let c13_i32_88 : BitVec 32 := 13#32
  let c4_i32_87 : BitVec 32 := 4#32
  let v163 : BitVec 32 := Scalar.muli c4_i32_87 v154
  let v164 : BitVec 32 := Scalar.subi c13_i32_88 v163
  let v165 : BitVec 32 := Scalar.select v160 v162 v164
  let v166 : BitVec 32 := Scalar.select v157 v159 v165
  let v167 : BitVec 32 := Scalar.select v155 v156 v166
  let c1_i32_219 : BitVec 32 := 1#32
  let v275 : BitVec 32 := Scalar.muli v167 c1_i32_219
  let v276 : BitVec 32 := Scalar.addi c0_i32_220 v275
  v276.toNat
def k0_dev14 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_230 : BitVec 32 := 1#32
  let v285 : BitVec 32 := Scalar.muli v124 c1_i32_230
  let v286 : BitVec 32 := Scalar.addi c0_i32_231 v285
  v286.toNat
def k0_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_242 : BitVec 32 := 1#32
  let v295 : BitVec 32 := Scalar.muli v81 c1_i32_242
  let v296 : BitVec 32 := Scalar.addi c0_i32_243 v295
  v296.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v311 : BitVec 32 := Scalar.muli v2 c64_i32
  let v312 : Index := Scalar.indexCast v311
  let c0_253 : Index := 0#32
  ![v312.toNat, 0]
def k0_dev16 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_272 : BitVec 32 := 1#32
  let v322 : BitVec 32 := Scalar.muli v124 c1_i32_272
  let v323 : BitVec 32 := Scalar.addi c0_i32_273 v322
  v323.toNat
def k0_dev17 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_295 : BitVec 32 := 1#32
  let v340 : BitVec 32 := Scalar.muli v81 c1_i32_295
  let v341 : BitVec 32 := Scalar.addi c0_i32_296 v340
  v341.toNat
def k0_dev18 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_319 : BitVec 32 := 1#32
  let v358 : BitVec 32 := Scalar.muli v124 c1_i32_319
  let v359 : BitVec 32 := Scalar.addi c0_i32_320 v358
  v359.toNat
def k0_dev19 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_343 : BitVec 32 := 1#32
  let v376 : BitVec 32 := Scalar.muli v81 c1_i32_343
  let v377 : BitVec 32 := Scalar.addi c0_i32_344 v376
  v377.toNat
def k0_dev20 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_367 : BitVec 32 := 1#32
  let v394 : BitVec 32 := Scalar.muli v124 c1_i32_367
  let v395 : BitVec 32 := Scalar.addi c0_i32_368 v394
  v395.toNat
def k0_dev21 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_391 : BitVec 32 := 1#32
  let v412 : BitVec 32 := Scalar.muli v81 c1_i32_391
  let v413 : BitVec 32 := Scalar.addi c0_i32_392 v412
  v413.toNat
def k0_dev22 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_415 : BitVec 32 := 1#32
  let v430 : BitVec 32 := Scalar.muli v124 c1_i32_415
  let v431 : BitVec 32 := Scalar.addi c0_i32_416 v430
  v431.toNat
def k0_dev23 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_439 : BitVec 32 := 1#32
  let v448 : BitVec 32 := Scalar.muli v81 c1_i32_439
  let v449 : BitVec 32 := Scalar.addi c0_i32_440 v448
  v449.toNat
def k0_off2 (d0 : Dev nD) (c1_i32_445 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let v458 : BitVec 32 := Scalar.subi v38 c1_i32_445
  let c32_i32_446 : BitVec 32 := 32#32
  let v459 : BitVec 32 := Scalar.addi v458 c32_i32_446
  let c16_i32_447 : BitVec 32 := 16#32
  let v460 : BitVec 32 := Scalar.remsi v459 c16_i32_447
  let c0_i32_449 : BitVec 32 := 0#32
  let v462 : BitVec 1 := Scalar.cmpi .sgt v460 c0_i32_449
  let v463 : BitVec 32 := Scalar.extui v462
  let c0_i32_450 : BitVec 32 := 0#32
  let v464 : BitVec 1 := Scalar.cmpi .slt v460 c0_i32_450
  let v465 : BitVec 32 := Scalar.extui v464
  let v466 : BitVec 32 := Scalar.subi v463 v465
  let c4_i32_448 : BitVec 32 := 4#32
  let c0_i32_451 : BitVec 32 := 0#32
  let v467 : BitVec 1 := Scalar.cmpi .sgt c4_i32_448 c0_i32_451
  let v468 : BitVec 32 := Scalar.extui v467
  let c0_i32_452 : BitVec 32 := 0#32
  let v469 : BitVec 1 := Scalar.cmpi .slt c4_i32_448 c0_i32_452
  let v470 : BitVec 32 := Scalar.extui v469
  let v471 : BitVec 32 := Scalar.subi v468 v470
  let v472 : BitVec 1 := Scalar.cmpi .ne v466 v471
  let v473 : BitVec 32 := Scalar.remsi v460 c4_i32_448
  let c0_i32_453 : BitVec 32 := 0#32
  let v474 : BitVec 1 := Scalar.cmpi .ne v473 c0_i32_453
  let v475 : BitVec 1 := Scalar.andi v472 v474
  let v461 : BitVec 32 := Scalar.divsi v460 c4_i32_448
  let c1_i32_454 : BitVec 32 := 1#32
  let v476 : BitVec 32 := Scalar.subi v461 c1_i32_454
  let v477 : BitVec 32 := Scalar.select v475 v476 v461
  let c0_i32_461 : BitVec 32 := 0#32
  let v488 : BitVec 1 := Scalar.cmpi .eq v477 c0_i32_461
  let c4_i32_462 : BitVec 32 := 4#32
  let c4_i32_455 : BitVec 32 := 4#32
  let c0_i32_456 : BitVec 32 := 0#32
  let v478 : BitVec 1 := Scalar.cmpi .eq c4_i32_455 c0_i32_456
  let c1_i32_457 : BitVec 32 := 1#32
  let v479 : BitVec 32 := Scalar.select v478 c1_i32_457 c4_i32_455
  let v480 : BitVec 32 := Scalar.remsi v460 v479
  let c0_i32_459 : BitVec 32 := 0#32
  let v482 : BitVec 1 := Scalar.cmpi .slt v480 c0_i32_459
  let c0_i32_460 : BitVec 32 := 0#32
  let v483 : BitVec 1 := Scalar.cmpi .slt v479 c0_i32_460
  let v484 : BitVec 1 := Scalar.xori v482 v483
  let c0_i32_458 : BitVec 32 := 0#32
  let v481 : BitVec 1 := Scalar.cmpi .ne v480 c0_i32_458
  let v485 : BitVec 1 := Scalar.andi v484 v481
  let v486 : BitVec 32 := Scalar.addi v480 v479
  let v487 : BitVec 32 := Scalar.select v485 v486 v480
  let v489 : BitVec 32 := Scalar.muli c4_i32_462 v487
  let c1_i32_463 : BitVec 32 := 1#32
  let v490 : BitVec 1 := Scalar.cmpi .eq v477 c1_i32_463
  let c15_i32_465 : BitVec 32 := 15#32
  let c4_i32_464 : BitVec 32 := 4#32
  let v491 : BitVec 32 := Scalar.muli c4_i32_464 v487
  let v492 : BitVec 32 := Scalar.subi c15_i32_465 v491
  let c2_i32_466 : BitVec 32 := 2#32
  let v493 : BitVec 1 := Scalar.cmpi .eq v477 c2_i32_466
  let c4_i32_467 : BitVec 32 := 4#32
  let v494 : BitVec 32 := Scalar.muli c4_i32_467 v487
  let c2_i32_468 : BitVec 32 := 2#32
  let v495 : BitVec 32 := Scalar.addi v494 c2_i32_468
  let c13_i32_470 : BitVec 32 := 13#32
  let c4_i32_469 : BitVec 32 := 4#32
  let v496 : BitVec 32 := Scalar.muli c4_i32_469 v487
  let v497 : BitVec 32 := Scalar.subi c13_i32_470 v496
  let v498 : BitVec 32 := Scalar.select v493 v495 v497
  let v499 : BitVec 32 := Scalar.select v490 v492 v498
  let v500 : BitVec 32 := Scalar.select v488 v489 v499
  let c64_i32_476 : BitVec 32 := 64#32
  let v507 : BitVec 32 := Scalar.muli v500 c64_i32_476
  let v508 : Index := Scalar.indexCast v507
  let c0_477 : Index := 0#32
  ![v508.toNat, 0]
def k0_off3 (d0 : Dev nD) (c1_i32_478 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let v510 : BitVec 32 := Scalar.addi v38 c1_i32_478
  let c32_i32_479 : BitVec 32 := 32#32
  let v511 : BitVec 32 := Scalar.addi v510 c32_i32_479
  let c16_i32_480 : BitVec 32 := 16#32
  let v512 : BitVec 32 := Scalar.remsi v511 c16_i32_480
  let c0_i32_482 : BitVec 32 := 0#32
  let v514 : BitVec 1 := Scalar.cmpi .sgt v512 c0_i32_482
  let v515 : BitVec 32 := Scalar.extui v514
  let c0_i32_483 : BitVec 32 := 0#32
  let v516 : BitVec 1 := Scalar.cmpi .slt v512 c0_i32_483
  let v517 : BitVec 32 := Scalar.extui v516
  let v518 : BitVec 32 := Scalar.subi v515 v517
  let c4_i32_481 : BitVec 32 := 4#32
  let c0_i32_484 : BitVec 32 := 0#32
  let v519 : BitVec 1 := Scalar.cmpi .sgt c4_i32_481 c0_i32_484
  let v520 : BitVec 32 := Scalar.extui v519
  let c0_i32_485 : BitVec 32 := 0#32
  let v521 : BitVec 1 := Scalar.cmpi .slt c4_i32_481 c0_i32_485
  let v522 : BitVec 32 := Scalar.extui v521
  let v523 : BitVec 32 := Scalar.subi v520 v522
  let v524 : BitVec 1 := Scalar.cmpi .ne v518 v523
  let v525 : BitVec 32 := Scalar.remsi v512 c4_i32_481
  let c0_i32_486 : BitVec 32 := 0#32
  let v526 : BitVec 1 := Scalar.cmpi .ne v525 c0_i32_486
  let v527 : BitVec 1 := Scalar.andi v524 v526
  let v513 : BitVec 32 := Scalar.divsi v512 c4_i32_481
  let c1_i32_487 : BitVec 32 := 1#32
  let v528 : BitVec 32 := Scalar.subi v513 c1_i32_487
  let v529 : BitVec 32 := Scalar.select v527 v528 v513
  let c0_i32_494 : BitVec 32 := 0#32
  let v540 : BitVec 1 := Scalar.cmpi .eq v529 c0_i32_494
  let c4_i32_495 : BitVec 32 := 4#32
  let c4_i32_488 : BitVec 32 := 4#32
  let c0_i32_489 : BitVec 32 := 0#32
  let v530 : BitVec 1 := Scalar.cmpi .eq c4_i32_488 c0_i32_489
  let c1_i32_490 : BitVec 32 := 1#32
  let v531 : BitVec 32 := Scalar.select v530 c1_i32_490 c4_i32_488
  let v532 : BitVec 32 := Scalar.remsi v512 v531
  let c0_i32_492 : BitVec 32 := 0#32
  let v534 : BitVec 1 := Scalar.cmpi .slt v532 c0_i32_492
  let c0_i32_493 : BitVec 32 := 0#32
  let v535 : BitVec 1 := Scalar.cmpi .slt v531 c0_i32_493
  let v536 : BitVec 1 := Scalar.xori v534 v535
  let c0_i32_491 : BitVec 32 := 0#32
  let v533 : BitVec 1 := Scalar.cmpi .ne v532 c0_i32_491
  let v537 : BitVec 1 := Scalar.andi v536 v533
  let v538 : BitVec 32 := Scalar.addi v532 v531
  let v539 : BitVec 32 := Scalar.select v537 v538 v532
  let v541 : BitVec 32 := Scalar.muli c4_i32_495 v539
  let c1_i32_496 : BitVec 32 := 1#32
  let v542 : BitVec 1 := Scalar.cmpi .eq v529 c1_i32_496
  let c15_i32_498 : BitVec 32 := 15#32
  let c4_i32_497 : BitVec 32 := 4#32
  let v543 : BitVec 32 := Scalar.muli c4_i32_497 v539
  let v544 : BitVec 32 := Scalar.subi c15_i32_498 v543
  let c2_i32_499 : BitVec 32 := 2#32
  let v545 : BitVec 1 := Scalar.cmpi .eq v529 c2_i32_499
  let c4_i32_500 : BitVec 32 := 4#32
  let v546 : BitVec 32 := Scalar.muli c4_i32_500 v539
  let c2_i32_501 : BitVec 32 := 2#32
  let v547 : BitVec 32 := Scalar.addi v546 c2_i32_501
  let c13_i32_503 : BitVec 32 := 13#32
  let c4_i32_502 : BitVec 32 := 4#32
  let v548 : BitVec 32 := Scalar.muli c4_i32_502 v539
  let v549 : BitVec 32 := Scalar.subi c13_i32_503 v548
  let v550 : BitVec 32 := Scalar.select v545 v547 v549
  let v551 : BitVec 32 := Scalar.select v542 v544 v550
  let v552 : BitVec 32 := Scalar.select v540 v541 v551
  let c64_i32_509 : BitVec 32 := 64#32
  let v559 : BitVec 32 := Scalar.muli v552 c64_i32_509
  let v560 : Index := Scalar.indexCast v559
  let c0_510 : Index := 0#32
  ![v560.toNat, 0]
def k0_dev24 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_528 : BitVec 32 := 1#32
  let v570 : BitVec 32 := Scalar.muli v81 c1_i32_528
  let v571 : BitVec 32 := Scalar.addi c0_i32_529 v570
  v571.toNat
def k0_dev25 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_539 : BitVec 32 := 1#32
  let v580 : BitVec 32 := Scalar.muli v124 c1_i32_539
  let v581 : BitVec 32 := Scalar.addi c0_i32_540 v580
  v581.toNat
def k0_dev26 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_563 : BitVec 32 := 1#32
  let v598 : BitVec 32 := Scalar.muli v81 c1_i32_563
  let v599 : BitVec 32 := Scalar.addi c0_i32_564 v598
  v599.toNat
def k0_dev27 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_575 : BitVec 32 := 1#32
  let v608 : BitVec 32 := Scalar.muli v124 c1_i32_575
  let v609 : BitVec 32 := Scalar.addi c0_i32_576 v608
  v609.toNat
def k0_dev28 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_599 : BitVec 32 := 1#32
  let v626 : BitVec 32 := Scalar.muli v81 c1_i32_599
  let v627 : BitVec 32 := Scalar.addi c0_i32_600 v626
  v627.toNat
def k0_dev29 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_611 : BitVec 32 := 1#32
  let v636 : BitVec 32 := Scalar.muli v124 c1_i32_611
  let v637 : BitVec 32 := Scalar.addi c0_i32_612 v636
  v637.toNat
def k0_dev30 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_635 : BitVec 32 := 1#32
  let v654 : BitVec 32 := Scalar.muli v81 c1_i32_635
  let v655 : BitVec 32 := Scalar.addi c0_i32_636 v654
  v655.toNat
def k0_dev31 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_647 : BitVec 32 := 1#32
  let v664 : BitVec 32 := Scalar.muli v124 c1_i32_647
  let v665 : BitVec 32 := Scalar.addi c0_i32_648 v664
  v665.toNat
def k0_dev32 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_704 : BitVec 32 := 1#32
  let v734 : BitVec 32 := Scalar.muli v124 c1_i32_704
  let v735 : BitVec 32 := Scalar.addi c0_i32_705 v734
  v735.toNat
def k0_dev33 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_727 : BitVec 32 := 1#32
  let v752 : BitVec 32 := Scalar.muli v81 c1_i32_727
  let v753 : BitVec 32 := Scalar.addi c0_i32_728 v752
  v753.toNat
def k0_dev34 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_751 : BitVec 32 := 1#32
  let v770 : BitVec 32 := Scalar.muli v124 c1_i32_751
  let v771 : BitVec 32 := Scalar.addi c0_i32_752 v770
  v771.toNat
def k0_dev35 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_775 : BitVec 32 := 1#32
  let v788 : BitVec 32 := Scalar.muli v81 c1_i32_775
  let v789 : BitVec 32 := Scalar.addi c0_i32_776 v788
  v789.toNat
def k0_dev36 (d0 : Dev nD) : Nat :=
  let c0_i32_800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_799 : BitVec 32 := 1#32
  let v806 : BitVec 32 := Scalar.muli v124 c1_i32_799
  let v807 : BitVec 32 := Scalar.addi c0_i32_800 v806
  v807.toNat
def k0_dev37 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_823 : BitVec 32 := 1#32
  let v824 : BitVec 32 := Scalar.muli v81 c1_i32_823
  let v825 : BitVec 32 := Scalar.addi c0_i32_824 v824
  v825.toNat
def k0_dev38 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_847 : BitVec 32 := 1#32
  let v842 : BitVec 32 := Scalar.muli v124 c1_i32_847
  let v843 : BitVec 32 := Scalar.addi c0_i32_848 v842
  v843.toNat
def k0_dev39 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_871 : BitVec 32 := 1#32
  let v860 : BitVec 32 := Scalar.muli v81 c1_i32_871
  let v861 : BitVec 32 := Scalar.addi c0_i32_872 v860
  v861.toNat
def k0_dev40 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_961 : BitVec 32 := 1#32
  let v982 : BitVec 32 := Scalar.muli v81 c1_i32_961
  let v983 : BitVec 32 := Scalar.addi c0_i32_962 v982
  v983.toNat
def k0_dev41 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_984 : BitVec 32 := 1#32
  let v1000 : BitVec 32 := Scalar.muli v124 c1_i32_984
  let v1001 : BitVec 32 := Scalar.addi c0_i32_985 v1000
  v1001.toNat
def k0_dev42 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1008 : BitVec 32 := 1#32
  let v1018 : BitVec 32 := Scalar.muli v81 c1_i32_1008
  let v1019 : BitVec 32 := Scalar.addi c0_i32_1009 v1018
  v1019.toNat
def k0_dev43 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1032 : BitVec 32 := 1#32
  let v1036 : BitVec 32 := Scalar.muli v124 c1_i32_1032
  let v1037 : BitVec 32 := Scalar.addi c0_i32_1033 v1036
  v1037.toNat
def k0_dev44 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1056 : BitVec 32 := 1#32
  let v1054 : BitVec 32 := Scalar.muli v81 c1_i32_1056
  let v1055 : BitVec 32 := Scalar.addi c0_i32_1057 v1054
  v1055.toNat
def k0_dev45 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1080 : BitVec 32 := 1#32
  let v1072 : BitVec 32 := Scalar.muli v124 c1_i32_1080
  let v1073 : BitVec 32 := Scalar.addi c0_i32_1081 v1072
  v1073.toNat
def k0_dev46 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1104 : BitVec 32 := 1#32
  let v1090 : BitVec 32 := Scalar.muli v81 c1_i32_1104
  let v1091 : BitVec 32 := Scalar.addi c0_i32_1105 v1090
  v1091.toNat
def k0_dev47 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1128 : BitVec 32 := 1#32
  let v1108 : BitVec 32 := Scalar.muli v124 c1_i32_1128
  let v1109 : BitVec 32 := Scalar.addi c0_i32_1129 v1108
  v1109.toNat
def k0_dev48 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1218 : BitVec 32 := 1#32
  let v1230 : BitVec 32 := Scalar.muli v124 c1_i32_1218
  let v1231 : BitVec 32 := Scalar.addi c0_i32_1219 v1230
  v1231.toNat
def k0_dev49 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1241 : BitVec 32 := 1#32
  let v1248 : BitVec 32 := Scalar.muli v81 c1_i32_1241
  let v1249 : BitVec 32 := Scalar.addi c0_i32_1242 v1248
  v1249.toNat
def k0_dev50 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1265 : BitVec 32 := 1#32
  let v1266 : BitVec 32 := Scalar.muli v124 c1_i32_1265
  let v1267 : BitVec 32 := Scalar.addi c0_i32_1266 v1266
  v1267.toNat
def k0_dev51 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1289 : BitVec 32 := 1#32
  let v1284 : BitVec 32 := Scalar.muli v81 c1_i32_1289
  let v1285 : BitVec 32 := Scalar.addi c0_i32_1290 v1284
  v1285.toNat
def k0_dev52 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1313 : BitVec 32 := 1#32
  let v1302 : BitVec 32 := Scalar.muli v124 c1_i32_1313
  let v1303 : BitVec 32 := Scalar.addi c0_i32_1314 v1302
  v1303.toNat
def k0_dev53 (d0 : Dev nD) : Nat :=
  let c0_i32_1338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1337 : BitVec 32 := 1#32
  let v1320 : BitVec 32 := Scalar.muli v81 c1_i32_1337
  let v1321 : BitVec 32 := Scalar.addi c0_i32_1338 v1320
  v1321.toNat
def k0_dev54 (d0 : Dev nD) : Nat :=
  let c0_i32_1362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1361 : BitVec 32 := 1#32
  let v1338 : BitVec 32 := Scalar.muli v124 c1_i32_1361
  let v1339 : BitVec 32 := Scalar.addi c0_i32_1362 v1338
  v1339.toNat
def k0_dev55 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1385 : BitVec 32 := 1#32
  let v1356 : BitVec 32 := Scalar.muli v81 c1_i32_1385
  let v1357 : BitVec 32 := Scalar.addi c0_i32_1386 v1356
  v1357.toNat
def k0_dev56 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1475 : BitVec 32 := 1#32
  let v1478 : BitVec 32 := Scalar.muli v81 c1_i32_1475
  let v1479 : BitVec 32 := Scalar.addi c0_i32_1476 v1478
  v1479.toNat
def k0_dev57 (d0 : Dev nD) : Nat :=
  let c0_i32_1500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1499 : BitVec 32 := 1#32
  let v1496 : BitVec 32 := Scalar.muli v124 c1_i32_1499
  let v1497 : BitVec 32 := Scalar.addi c0_i32_1500 v1496
  v1497.toNat
def k0_dev58 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1523 : BitVec 32 := 1#32
  let v1514 : BitVec 32 := Scalar.muli v81 c1_i32_1523
  let v1515 : BitVec 32 := Scalar.addi c0_i32_1524 v1514
  v1515.toNat
def k0_dev59 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1547 : BitVec 32 := 1#32
  let v1532 : BitVec 32 := Scalar.muli v124 c1_i32_1547
  let v1533 : BitVec 32 := Scalar.addi c0_i32_1548 v1532
  v1533.toNat
def k0_dev60 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1571 : BitVec 32 := 1#32
  let v1550 : BitVec 32 := Scalar.muli v81 c1_i32_1571
  let v1551 : BitVec 32 := Scalar.addi c0_i32_1572 v1550
  v1551.toNat
def k0_dev61 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1595 : BitVec 32 := 1#32
  let v1568 : BitVec 32 := Scalar.muli v124 c1_i32_1595
  let v1569 : BitVec 32 := Scalar.addi c0_i32_1596 v1568
  v1569.toNat
def k0_dev62 (d0 : Dev nD) : Nat :=
  let c0_i32_1620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c15_i32_32 : BitVec 32 := 15#32
  let c4_i32_31 : BitVec 32 := 4#32
  let v72 : BitVec 32 := Scalar.muli c4_i32_31 v68
  let v73 : BitVec 32 := Scalar.subi c15_i32_32 v72
  let c2_i32_33 : BitVec 32 := 2#32
  let v74 : BitVec 1 := Scalar.cmpi .eq v58 c2_i32_33
  let c4_i32_34 : BitVec 32 := 4#32
  let v75 : BitVec 32 := Scalar.muli c4_i32_34 v68
  let c2_i32_35 : BitVec 32 := 2#32
  let v76 : BitVec 32 := Scalar.addi v75 c2_i32_35
  let c13_i32 : BitVec 32 := 13#32
  let c4_i32_36 : BitVec 32 := 4#32
  let v77 : BitVec 32 := Scalar.muli c4_i32_36 v68
  let v78 : BitVec 32 := Scalar.subi c13_i32 v77
  let v79 : BitVec 32 := Scalar.select v74 v76 v78
  let v80 : BitVec 32 := Scalar.select v71 v73 v79
  let v81 : BitVec 32 := Scalar.select v69 v70 v80
  let c1_i32_1619 : BitVec 32 := 1#32
  let v1586 : BitVec 32 := Scalar.muli v81 c1_i32_1619
  let v1587 : BitVec 32 := Scalar.addi c0_i32_1620 v1586
  v1587.toNat
def k0_dev63 (d0 : Dev nD) : Nat :=
  let c0_i32_1644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c15_i32 : BitVec 32 := 15#32
  let v32 : BitVec 32 := Scalar.subi c15_i32 v19
  let c2_i32 : BitVec 32 := 2#32
  let v33 : BitVec 1 := Scalar.cmpi .eq v29 c2_i32
  let c8_i32 : BitVec 32 := 8#32
  let v34 : BitVec 32 := Scalar.addi c8_i32 v19
  let c7_i32 : BitVec 32 := 7#32
  let v35 : BitVec 32 := Scalar.subi c7_i32 v19
  let v36 : BitVec 32 := Scalar.select v33 v34 v35
  let v37 : BitVec 32 := Scalar.select v31 v32 v36
  let v38 : BitVec 32 := Scalar.select v30 v19 v37
  let c1_i32_37 : BitVec 32 := 1#32
  let v82 : BitVec 32 := Scalar.addi v38 c1_i32_37
  let c32_i32_38 : BitVec 32 := 32#32
  let v83 : BitVec 32 := Scalar.addi v82 c32_i32_38
  let c16_i32_39 : BitVec 32 := 16#32
  let v84 : BitVec 32 := Scalar.remsi v83 c16_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c4_i32_40 : BitVec 32 := 4#32
  let c0_i32_43 : BitVec 32 := 0#32
  let v91 : BitVec 1 := Scalar.cmpi .sgt c4_i32_40 c0_i32_43
  let v92 : BitVec 32 := Scalar.extui v91
  let c0_i32_44 : BitVec 32 := 0#32
  let v93 : BitVec 1 := Scalar.cmpi .slt c4_i32_40 c0_i32_44
  let v94 : BitVec 32 := Scalar.extui v93
  let v95 : BitVec 32 := Scalar.subi v92 v94
  let v96 : BitVec 1 := Scalar.cmpi .ne v90 v95
  let v97 : BitVec 32 := Scalar.remsi v84 c4_i32_40
  let c0_i32_45 : BitVec 32 := 0#32
  let v98 : BitVec 1 := Scalar.cmpi .ne v97 c0_i32_45
  let v99 : BitVec 1 := Scalar.andi v96 v98
  let v85 : BitVec 32 := Scalar.divsi v84 c4_i32_40
  let c1_i32_46 : BitVec 32 := 1#32
  let v100 : BitVec 32 := Scalar.subi v85 c1_i32_46
  let v101 : BitVec 32 := Scalar.select v99 v100 v85
  let c0_i32_53 : BitVec 32 := 0#32
  let v112 : BitVec 1 := Scalar.cmpi .eq v101 c0_i32_53
  let c4_i32_54 : BitVec 32 := 4#32
  let c4_i32_47 : BitVec 32 := 4#32
  let c0_i32_48 : BitVec 32 := 0#32
  let v102 : BitVec 1 := Scalar.cmpi .eq c4_i32_47 c0_i32_48
  let c1_i32_49 : BitVec 32 := 1#32
  let v103 : BitVec 32 := Scalar.select v102 c1_i32_49 c4_i32_47
  let v104 : BitVec 32 := Scalar.remsi v84 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v113 : BitVec 32 := Scalar.muli c4_i32_54 v111
  let c1_i32_55 : BitVec 32 := 1#32
  let v114 : BitVec 1 := Scalar.cmpi .eq v101 c1_i32_55
  let c15_i32_57 : BitVec 32 := 15#32
  let c4_i32_56 : BitVec 32 := 4#32
  let v115 : BitVec 32 := Scalar.muli c4_i32_56 v111
  let v116 : BitVec 32 := Scalar.subi c15_i32_57 v115
  let c2_i32_58 : BitVec 32 := 2#32
  let v117 : BitVec 1 := Scalar.cmpi .eq v101 c2_i32_58
  let c4_i32_59 : BitVec 32 := 4#32
  let v118 : BitVec 32 := Scalar.muli c4_i32_59 v111
  let c2_i32_60 : BitVec 32 := 2#32
  let v119 : BitVec 32 := Scalar.addi v118 c2_i32_60
  let c13_i32_62 : BitVec 32 := 13#32
  let c4_i32_61 : BitVec 32 := 4#32
  let v120 : BitVec 32 := Scalar.muli c4_i32_61 v111
  let v121 : BitVec 32 := Scalar.subi c13_i32_62 v120
  let v122 : BitVec 32 := Scalar.select v117 v119 v121
  let v123 : BitVec 32 := Scalar.select v114 v116 v122
  let v124 : BitVec 32 := Scalar.select v112 v113 v123
  let c1_i32_1643 : BitVec 32 := 1#32
  let v1604 : BitVec 32 := Scalar.muli v124 c1_i32_1643
  let v1605 : BitVec 32 := Scalar.addi c0_i32_1644 v1604
  v1605.toNat
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ClippedIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Program.lean ====
/-
# The kernel as a list of steps

After its entry (the two stores and the handshake) the kernel on each device is one fixed list of steps: start a
transfer, wait for an arrival, compute the block of one slot, wait for a transfer to have been sent. This module says
what each step is as a program, in what order the steps come, and that the printed kernel is exactly that.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.GatherProof

open Cert.KernelIdeal Cert.KernelIdeal.Gen
open Idealize.ShloMosaic Idealize.ShloMosaic.TcCoe Idealize.SL.Sem

variable {F : FTy → Type} [FloatOps F]

/-! ## The transfers -/

/-- The neighbour a transfer goes to: the device before, the device after, or the opposite one on the ring. -/
inductive Dir | left | right | chord
  deriving DecidableEq

/-- The kernel's device number of each neighbour. -/
def nbr (c : Dev nD) : Dir → Dev nD
  | .left => ⟨k0_dev1 c, k0_dev1_lt c⟩
  | .right => ⟨k0_dev2 c, k0_dev2_lt c⟩
  | .chord => ⟨k0_dev3 c, k0_dev3_lt c⟩

/-- The slot a transfer reads, by the transfer's number. -/
def srcOf : Fin 15 → Fin 16 := ![0, 0, 0, 1, 9, 8, 8, 2, 10, 7, 15, 3, 11, 6, 14]
/-- The slot it writes. -/
def dstOf : Fin 15 → Fin 16 := ![8, 1, 9, 2, 10, 7, 15, 3, 11, 6, 14, 4, 12, 5, 13]
/-- The neighbour it goes to. -/
def dirOf : Fin 15 → Dir :=
  ![.chord, .right, .left, .right, .left, .left, .right, .right, .left, .left, .right, .right, .left, .left, .right]

/-- One step of the kernel. -/
inductive Step
  /-- start transfer `e` of segment `s` -/
  | send (e : Fin 15) (s : Fin 4)
  /-- wait until segment `s` of slot `j` has arrived -/
  | recv (j : Fin 16) (s : Fin 4)
  /-- compute the result's block from slot `j` -/
  | comp (j : Fin 16)
  /-- wait until transfer `e` of segment `s` has been read out -/
  | done (e : Fin 15) (s : Fin 4)
  deriving DecidableEq

/-! ## The views the steps use -/

/-- The gathered blocks, sixteen slots. -/
abbrev gM : Memref sig .tc .vmem S16x64x1024 .bf16 := Memref.whole cc0_scratch0
/-- The copy of the device's columns. -/
abbrev wM : Memref sig .tc .vmem S1024x64 .bf16 := Memref.whole cc0_scratch1
abbrev aM : Memref sig .tc .vmem S64x1024 .bf16 := Memref.whole cc0_stg0_0
abbrev bM : Memref sig .tc .vmem S1024x64 .bf16 := Memref.whole cc0_stg1_0
abbrev oM : Memref sig .tc .vmem S1024x64 .f32 := Memref.whole cc0_stg2_0

theorem seg_inb (j : Fin 16) (s : Fin 4) : ∀ a, (![j.val, 16 * s.val, 0] : Fin 3 → ℕ) a + S1x16x1024.size a ≤ S16x64x1024.size a := by
  revert j s; decide
theorem slot_inb (j : Fin 16) : ∀ a, (![j.val, 0, 0] : Fin 3 → ℕ) a + S1x64x1024.size a ≤ S16x64x1024.size a := by
  revert j; decide
theorem sendSem_inb (e : Fin 15) (s : Fin 4) : ∀ a, (![e.val, s.val] : Fin 2 → ℕ) a + S1x1.size a ≤ S15x4.size a := by
  revert e s; decide
theorem recvSem_inb (j : Fin 16) (s : Fin 4) : ∀ a, (![j.val, s.val] : Fin 2 → ℕ) a + S1x1.size a ≤ S16x4.size a := by
  revert j s; decide

/-- The rectangle of segment `s` of slot `j`: sixteen rows of the slot's sixty-four. -/
abbrev segRect (j : Fin 16) (s : Fin 4) : Rect S16x64x1024 := Rect.unit (s := S16x64x1024) ![j.val, 16 * s.val, 0] S1x16x1024.size (seg_inb j s)
/-- The view of segment `s` of slot `j`. -/
def segM (j : Fin 16) (s : Fin 4) : Memref sig .tc .vmem S16x1024 .bf16 :=
  (gM.slice (segRect j s) (fun _ => rfl)).squeeze S16x1024 squeezes_S1x16x1024_S16x1024
/-- The rectangle of slot `j`. -/
abbrev slotRect (j : Fin 16) : Rect S16x64x1024 := Rect.unit (s := S16x64x1024) ![j.val, 0, 0] S1x64x1024.size (slot_inb j)
abbrev wRect : Rect S1024x64 := Rect.unit (s := S1024x64) ![0, 0] S1024x64.size inb_S1024x64_S1024x64_0_0
abbrev aRect : Rect S64x1024 := Rect.unit (s := S64x1024) ![0, 0] S64x1024.size inb_S64x1024_S64x1024_0_0

/-- The semaphore that counts transfer `e`'s segment `s` as read out. -/
def sendS (e : Fin 15) (s : Fin 4) : DmaSem sig :=
  ((cc0_scratch2.slice (Rect.unit (s := S15x4) ![e.val, s.val] S1x1.size (sendSem_inb e s))).squeeze S_ squeezes_S1x1_S_).sem
/-- The semaphore that counts segment `s` of slot `j` as arrived. -/
def recvS (j : Fin 16) (s : Fin 4) : DmaSem sig :=
  ((cc0_scratch3.slice (Rect.unit (s := S16x4) ![j.val, s.val] S1x1.size (recvSem_inb j s))).squeeze S_ squeezes_S1x1_S_).sem
/-- The barrier semaphore. -/
abbrev barS : Sem sig := (SemArray.scalar (sig.barrier 0 rfl) : Sems sig S_).sem

/-- A segment is whole words of its buffer: its sixteen rows start at an even row. -/
theorem segRect_words (j : Fin 16) (s : Fin 4) : (segRect j s).WholeWords (EltTy.packing .bf16) := by
  revert j s; decide
theorem seg_words (j : Fin 16) (s : Fin 4) : (segM j s).view.WordExact :=
  ((Memref.isWhole_whole cc0_scratch0).wordExact_slice rfl _ (segRect_words j s)).reshape _ _

/-- Where the result's block of slot `j` starts, as the kernel computes it. -/
def offOf (c : Dev nD) (j : Fin 16) : Fin 2 → ℕ :=
  if j.val = 0 then k0_off1 c else if j.val ≤ 8 then k0_off2 c (BitVec.ofNat 32 j.val) else k0_off3 c (BitVec.ofNat 32 (j.val - 8))

theorem off_inb (c : Dev nD) (j : Fin 16) : ∀ a, offOf c j a + S64x64.size a ≤ S1024x64.size a := by
  revert c j; decide +kernel

/-! ## The steps as programs -/

/-- Step `o` on device `c`. -/
def Step.prog (c : Dev nD) : Step → Prog (TpuEff nD τ sig (Elt F) Λ₀ .tc) PUnit
  | .send e s => Prog.lift (.enqueueDma (segM (srcOf e) s) (.remote (Dev.tc (nbr c (dirOf e))) (segM (dstOf e) s) (.dma (sendS e s)))
      (.dma (recvS (dstOf e) s)) (seg_words _ _) (seg_words _ _) ⟨⟨rfl, Or.inl rfl⟩, trivial⟩)
  | .recv j s => Prog.lift (.waitDma2 (recvS j s) (segM j s) (segM j s) (seg_words _ _) (seg_words _ _))
  | .comp j => do
      let v : Vec F S1x64x1024 .bf16 ← Prog.lift (.load gM (slotRect j).toLoadRect (View.loadsAt_vmem h_S1x64x1024))
      let w : Vec F S1024x64 .bf16 ← Prog.lift (.load wM wRect.toLoadRect (View.loadsAt_vmem h_S1024x64))
      let _ : Vec F S64x64 .f32 ← Prog.lift (.load oM (Rect.unit (s := S1024x64) (offOf c j) S64x64.size (off_inb c j)).toLoadRect (View.loadsAt_vmem h_S64x64))
      Prog.lift (.store oM (Rect.unit (s := S1024x64) (offOf c j) S64x64.size (off_inb c j)) (k0_pay3 v w) Finset.univ (View.stores_vmem_bits_univ h_S64x64 rfl) (.inl rfl))
  | .done e s => Prog.lift (.waitDma2 (sendS e s) (segM (dstOf e) s) (segM (srcOf e) s) (seg_words _ _) (seg_words _ _))

/-- The steps of a list one after the other. -/
def runSteps (c : Dev nD) : List Step → Prog (TpuEff nD τ sig (Elt F) Λ₀ .tc) PUnit
  | [] => pure ⟨⟩
  | o :: os => o.prog c >>= fun _ => runSteps c os

/-! ## Their order -/

/-- The schedule: per stage, the slots whose segments are waited for, each with the transfers its arrival lets start. -/
def stages : List (List (Option (Fin 16) × List (Fin 15))) :=
  [[(none, [0, 1, 2])], [(some 1, [3]), (some 9, [4])], [(some 8, [5, 6])], [(some 2, [7]), (some 10, [8])],
   [(some 7, [9]), (some 15, [10])], [(some 3, [11]), (some 11, [12])], [(some 6, [13]), (some 14, [14])],
   [(some 5, []), (some 13, []), (some 4, []), (some 12, [])]]

/-- One stage: segment by segment the arrivals and the transfers they allow, then the stage's blocks. -/
def stageSteps (st : List (Option (Fin 16) × List (Fin 15))) : List Step :=
  ([0, 1, 2, 3] : List (Fin 4)).flatMap (fun s => st.flatMap fun p => (p.1.elim [] fun j => [Step.recv j s]) ++ p.2.map fun e => Step.send e s)
    ++ st.map fun p => Step.comp (p.1.getD 0)

/-- The transfers in the order they were started. -/
def startedOf : List Step → List Step :=
  List.filterMap fun | .send e s => some (.done e s) | _ => none

def mainSteps : List Step := stages.flatMap stageSteps
/-- The whole kernel after its entry. -/
def allSteps : List Step := mainSteps ++ startedOf mainSteps

/-! ## The entry -/

/-- The device's row block into slot 0, its columns copied, the three neighbours signalled and waited for. -/
def entryProg (c : Dev nD) : Prog (TpuEff nD τ sig (Elt F) Λ₀ .tc) PUnit := do
  let v : Vec F S64x1024 .bf16 ← Prog.lift (.load aM aRect.toLoadRect (View.loadsAt_vmem h_S64x1024))
  let _ : Vec F S1x64x1024 .bf16 ← Prog.lift (.load gM (slotRect 0).toLoadRect (View.loadsAt_vmem h_S1x64x1024))
  Prog.lift (.store gM (slotRect 0) (k0_pay1 v) Finset.univ (View.stores_vmem h_S1x64x1024 ((Memref.isWhole_whole cc0_scratch0).storeExact_slice rfl _ packedbf16_S16x64x1024_S1x64x1024_0_0_0) (fun _ => rfl)) (.inl rfl))
  let w : Vec F S1024x64 .bf16 ← Prog.lift (.load bM wRect.toLoadRect (View.loadsAt_vmem h_S1024x64))
  let _ : Vec F S1024x64 .bf16 ← Prog.lift (.load wM wRect.toLoadRect (View.loadsAt_vmem h_S1024x64))
  Prog.lift (.store wM wRect (k0_pay2 w) Finset.univ (View.stores_vmem h_S1024x64 ((Memref.isWhole_whole cc0_scratch1).storeExact_slice rfl _ packedbf16_S1024x64_S1024x64_0_0) (fun _ => rfl)) (.inl rfl))
  semSignalWord (nbr c .left) barS 1#32
  semSignalWord (nbr c .right) barS 1#32
  semSignalWord (nbr c .chord) barS 1#32
  semWaitWord barS 3#32

/-- The kernel: read the device's number, the entry, the steps. -/
def kernelProg : Prog (TpuEff nD τ sig (Elt F) Λ₀ .tc) PUnit := do
  let c : Dev nD ← Prog.lift .deviceId
  entryProg c
  runSteps c allSteps

set_option maxRecDepth 100000 in
/-- The printed kernel is `kernelProg`. -/
theorem body_eq : bodyAt0 (F := F) t0_0 = kernelProg := by chain_rfl

end Cert.GatherProof

end
-- ==== Proof.Slots.lean ====
/-
# The ring and the slots

Which device's rows each slot of each device holds, how a transfer carries a slot of one device to a slot of its
neighbour, and which elements of the gathered buffer a segment of a slot is.
-/
module

public import proofs.«01_k».proof.Proof.Program
public import Idealize.ShloMosaic.Lib.ValueLayout

@[expose] public section

noncomputable section

namespace Cert.GatherProof

open Cert.KernelIdeal Cert.KernelIdeal.Gen
open Idealize.ShloMosaic Idealize.ShloMosaic.TcCoe Idealize.ShloMosaic.ValueIdx

/-! ## The ring -/

instance : Fintype Dir := ⟨{.left, .right, .chord}, fun d => by cases d <;> decide⟩

/-- The direction back. -/
def Dir.opp : Dir → Dir
  | .left => .right
  | .right => .left
  | .chord => .chord

theorem opp_opp (d : Dir) : d.opp.opp = d := by cases d <;> rfl

/-- Going to a neighbour and back. -/
theorem nbr_opp (c : Dev nD) (d : Dir) : nbr (nbr c d) d.opp = c := by
  revert c d; decide +kernel
theorem nbr_opp' (c : Dev nD) (d : Dir) : nbr (nbr c d.opp) d = c := by
  have h := nbr_opp c d.opp
  rwa [opp_opp] at h

/-- Going in one direction is a bijection of the devices. -/
def nbrEquiv (d : Dir) : Dev nD ≃ Dev nD where
  toFun c := nbr c d
  invFun c := nbr c d.opp
  left_inv c := nbr_opp c d
  right_inv c := nbr_opp' c d

/-- The device whose rows slot `j` of device `c` holds. -/
def orig (c : Dev nD) (j : Fin 16) : Dev nD := ⟨offOf c j 0 / 64, by revert c j; decide +kernel⟩

/-- The result's block computed from slot `j` lies at the rows of the device it came from. -/
theorem offOf_eq (c : Dev nD) (j : Fin 16) : offOf c j = ![64 * (orig c j).val, 0] := by
  revert c j; decide +kernel
/-- Slot 0 holds the device's own rows. -/
theorem orig_zero (c : Dev nD) : orig c 0 = c := by
  revert c; decide +kernel
/-- A transfer carries to the neighbour's slot what that slot is to hold. -/
theorem orig_nbr (c : Dev nD) (e : Fin 15) : orig (nbr c (dirOf e)) (dstOf e) = orig c (srcOf e) := by
  revert c e; decide +kernel
/-- Every device's rows are in some slot. -/
theorem orig_surj (c : Dev nD) (d : Dev nD) : ∃ j, orig c j = d := by
  revert c d; decide +kernel

/-- Every slot but slot 0 is written by exactly one transfer. -/
theorem dst_inj : Function.Injective dstOf := by decide
theorem slots_eq : (Finset.univ : Finset (Fin 16)) = insert 0 (Finset.univ.map ⟨dstOf, dst_inj⟩) := by decide
theorem dst_ne (e : Fin 15) : dstOf e ≠ 0 := by revert e; decide

/-! ## The elements of a segment -/

/-- The elements of segment `s` of slot `j`. -/
def segSet (j : Fin 16) (s : Fin 4) : Finset S16x64x1024.Idx := (segM j s).view.set

theorem segSet_eq (j : Fin 16) (s : Fin 4) : segSet j s = (segRect j s).set :=
  (View.set_reshape _ _).trans (View.set_slice_whole _ _)

theorem mem_segSet {j : Fin 16} {s : Fin 4} {i : S16x64x1024.Idx} :
    i ∈ segSet j s ↔ (i 0 : ℕ) = j.val ∧ (i 1 : ℕ) / 16 = s.val := by
  rw [segSet_eq, Rect.mem_set_unit, Fin.forall_fin_succ, Fin.forall_fin_succ, Fin.forall_fin_one]
  have h2 := (i 2).isLt
  simp [Rect.unit] at h2 ⊢
  omega

/-- Different segments share no element. -/
theorem segSet_disjoint {p p' : Fin 16 × Fin 4} (h : p ≠ p') : Disjoint (segSet p.1 p.2) (segSet p'.1 p'.2) := by
  rw [Finset.disjoint_left]
  intro i hi hi'
  have h1 := mem_segSet.mp hi
  have h2 := mem_segSet.mp hi'
  exact h (Prod.ext (Fin.ext (h1.1.symm.trans h2.1)) (Fin.ext (h1.2.symm.trans h2.2)))

/-- The segments are the whole buffer. -/
theorem segSet_cover : (Finset.univ : Finset (Fin 16 × Fin 4)).biUnion (fun p => segSet p.1 p.2) = Finset.univ := by
  refine Finset.eq_univ_iff_forall.mpr fun i => Finset.mem_biUnion.mpr ?_
  have h1 : (i 1 : ℕ) < 64 := (i 1).isLt
  exact ⟨(i 0, ⟨(i 1 : ℕ) / 16, by omega⟩), Finset.mem_univ _, mem_segSet.mpr ⟨rfl, rfl⟩⟩

theorem mem_slotRect {j : Fin 16} {i : S16x64x1024.Idx} : i ∈ (slotRect j).set ↔ (i 0 : ℕ) = j.val := by
  rw [Rect.mem_set_unit, Fin.forall_fin_succ, Fin.forall_fin_succ, Fin.forall_fin_one]
  have h1 : (i 1 : ℕ) < 64 := (i 1).isLt
  have h2 : (i 2 : ℕ) < 1024 := (i 2).isLt
  simp [Rect.unit]
  omega

/-- The four segments of a slot are the slot. -/
theorem slot_cover (j : Fin 16) : (Finset.univ : Finset (Fin 4)).biUnion (segSet j) = (slotRect j).set := by
  ext i
  rw [Finset.mem_biUnion, mem_slotRect]
  constructor
  · rintro ⟨s, -, hs⟩
    exact (mem_segSet.mp hs).1
  · intro h
    have h1 : (i 1 : ℕ) < 64 := (i 1).isLt
    exact ⟨⟨(i 1 : ℕ) / 16, by omega⟩, Finset.mem_univ _, mem_segSet.mpr ⟨h, rfl⟩⟩

/-- Where the elements of a segment lie in the buffer. -/
theorem seg_emb (j : Fin 16) (s : Fin 4) (x : S16x1024.Idx) :
    (segM j s).view.emb x = ix3 j (⟨16 * s.val + (x 0 : ℕ), by have : (x 0 : ℕ) < 16 := (x 0).isLt; omega⟩ : Fin 64) (x 1 : Fin 1024) := by
  change (segRect j s).emb (Shape.reshapeEquiv _ x) = _
  rw [eq_ix2 x]
  erw [reshapeEquiv_ix2_1ab]
  funext a
  apply Fin.ext
  fin_cases a <;> simp [ix2, ix3]

/-! ## What the slots hold -/

variable {F : FTy → Type} [FloatOps F]

/-- The gathered buffer of device `c` when every slot has arrived: slot `j` holds the rows `xs` of the device it comes from. -/
def slotsOf (xs : Dev nD → S64x1024.Idx → Elt F .bf16) (c : Dev nD) : S16x64x1024.Idx → Elt F .bf16 :=
  fun i => xs (orig c (i 0)) (ix2 (i 1 : Fin 64) (i 2 : Fin 1024))

/-- What a transfer reads off its source is what its destination is to hold. -/
theorem land_eq (xs : Dev nD → S64x1024.Idx → Elt F .bf16) (c : Dev nD) (e : Fin 15) (s : Fin 4)
    (fd : S16x64x1024.Idx → Elt F .bf16) :
    ∀ i ∈ segSet (dstOf e) s,
      (segM (dstOf e) s).view.write (Elt F) fd ((segM (srcOf e) s).view.read (Elt F) (slotsOf xs c)) Finset.univ i
        = slotsOf xs (nbr c (dirOf e)) i := by
  intro i hi
  obtain ⟨x, -, rfl⟩ := Finset.mem_map.mp hi
  refine (View.write_emb_of_mem (Val := Elt F) (v := (segM (dstOf e) s).view) fd _ (Finset.mem_univ x)).trans ?_
  exact ((congrArg (slotsOf xs c) (seg_emb (srcOf e) s x)).trans (congrArg (fun d => xs d _) (orig_nbr c e).symm)).trans
    (congrArg (slotsOf xs (nbr c (dirOf e))) (seg_emb (dstOf e) s x)).symm

end Cert.GatherProof

end
-- ==== Proof.Protocol.lean ====
/-
# The protocol of the gather

Per device 125 semaphores: the barrier's, one per transfer of a segment for its having been read out, one per segment of
each slot for its arrival. Each is used in one round. This module says who pays each, how much, and what comes with the
payment; what each device owes; and in which order the waits lie.
-/
module

public import proofs.«01_k».proof.Proof.Slots
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Dir
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kernel's scoped semaphores: an arrival's `(j, s)`, a transfer's `(e, s)`. -/
abbrev Own : Type := (Fin 16 × Fin 4) ⊕ (Fin 15 × Fin 4)
/-- All of them: `none` is the barrier's. -/
abbrev Cell : Type := Option Own

abbrev osem : Own → SemLoc sig
  | .inl p => .dma (recvS p.1 p.2)
  | .inr p => .dma (sendS p.1 p.2)
abbrev csem : Cell → SemLoc sig
  | none => .reg barS
  | some k => osem k

theorem recvS_val (j : Fin 16) (s : Fin 4) : (recvS j s).val = 63 + (4 * j.val + s.val) := by revert j s; decide
theorem sendS_val (e : Fin 15) (s : Fin 4) : (sendS e s).val = 3 + (4 * e.val + s.val) := by revert e s; decide

theorem osem_inj : Function.Injective osem := by
  rintro (⟨j, s⟩ | ⟨e, s⟩) (⟨j', s'⟩ | ⟨e', s'⟩) h
  all_goals
    injection h with h
    have hv := congrArg Fin.val h
    simp only [recvS_val, sendS_val] at hv
  · exact congrArg Sum.inl (Prod.ext (Fin.ext (by dsimp only; omega)) (Fin.ext (by dsimp only; omega)))
  · omega
  · omega
  · exact congrArg Sum.inr (Prod.ext (Fin.ext (by dsimp only; omega)) (Fin.ext (by dsimp only; omega)))

theorem csem_inj : Function.Injective csem := by
  rintro (_ | k) (_ | k') h
  · rfl
  · rcases k' with p | p <;> cases h
  · rcases k with p | p <;> cases h
  · exact congrArg some (osem_inj h)

/-- Which of the kernel's cells a semaphore is. -/
def kind : SemLoc sig → Option Cell := Function.partialInv csem
theorem kind_csem (k : Cell) : kind (csem k) = some k := Function.partialInv_left csem_inj k

abbrev cellAt (c : Dev nD) (k : Cell) : GSem nD τ sig := ((c : Thread nD τ), csem k)
abbrev barCell (c : Dev nD) : GSem nD τ sig := cellAt c none
abbrev recvCell (c : Dev nD) (p : Fin 16 × Fin 4) : GSem nD τ sig := cellAt c (some (.inl p))
abbrev sendCell (c : Dev nD) (p : Fin 15 × Fin 4) : GSem nD τ sig := cellAt c (some (.inr p))

theorem cellAt_inj : Function.Injective (fun ck : Dev nD × Cell => cellAt ck.1 ck.2) := by
  rintro ⟨c, k⟩ ⟨c', k'⟩ h
  have h1 : c = c' := congrArg (fun g : GSem nD τ sig => g.1.1) h
  have h2 : k = k' := csem_inj (congrArg Prod.snd h)
  rw [h1, h2]

/-- The credit of one segment. -/
def N : ℕ := (segM 0 0).view.dmaCredit
theorem N_eq (j : Fin 16) (s : Fin 4) : (segM j s).view.dmaCredit = N := rfl
theorem N_pos : 0 < N := View.dmaCredit_pos _ (by decide)

/-! ## What is held -/

variable (xs : Dev nD → S64x1024.Idx → Elt F .bf16)

/-- Segment `s` of slot `j` of device `c`, at share `q` and contents `f`. -/
def segPts (c : Dev nD) (p : Fin 16 × Fin 4) (q : PosShare TreeShare) (f : S16x64x1024.Idx → Elt F .bf16) : sProp 𝕄 :=
  ((c : Thread nD τ).loc cc0_scratch0) ↦[segSet p.1 p.2]{q} f

instance segPts_storable (c : Dev nD) (p q f) : BI.Storable (upEmb : UEmb _ 𝕄) (segPts (F := F) c p q f) := by
  unfold segPts; infer_instance

/-- The quarters of a segment's share. -/
abbrev Quarter : Type := Fin (2 ^ 2)
/-- Which quarter of a segment a transfer of it takes; the last quarter is the compute's. -/
def leafOf : Fin 15 → Quarter := ![0, 1, 2, 0, 0, 0, 1, 0, 0, 0, 0, 0, 0, 0, 0]
theorem leaf_inj {e e' : Fin 15} (h : srcOf e = srcOf e') (h' : leafOf e = leafOf e') : e = e' := by
  revert e e'; decide
theorem leaf_ne (e : Fin 15) : leafOf e ≠ 3 := by revert e; decide

abbrev quarter (k : Quarter) : PosShare TreeShare := ShareLeaves.leaf 2 fullShare k

/-- What the neighbour in direction `d` hands over with its signal: of its slots those that are written from this side. -/
def barPay (c : Dev nD) (d : Dir) : sProp 𝕄 :=
  bigSep (Finset.univ.filter fun p : Fin 15 × Fin 4 => dirOf p.1 = d) fun p => iprop(∃ f, segPts (nbr c d) (dstOf p.1, p.2) fullShare f)

instance barPay_storable (c : Dev nD) (d : Dir) : BI.Storable (upEmb : UEmb _ 𝕄) (barPay (F := F) c d) := by
  unfold barPay; infer_instance

/-! ## The schedule -/

def cellDuties : Cell → Finset Dir
  | none => Finset.univ
  | some (.inl p) => if p.1 = 0 then ∅ else {.left}
  | some (.inr _) => {.left}
def cellAmount : Cell → ℕ
  | none => 1
  | some _ => N
def cellPay (c : Dev nD) : Cell → Dir → sProp 𝕄
  | none, d => barPay c d
  | some (.inl p), _ => segPts c p fullShare (slotsOf xs c)
  | some (.inr p), _ => segPts c (srcOf p.1, p.2) (quarter (leafOf p.1)) (slotsOf xs c)

instance cellPay_storable (c : Dev nD) (k : Cell) (d : Dir) : BI.Storable (upEmb : UEmb _ 𝕄) (cellPay xs c k d) := by
  rcases k with _ | p | p <;> unfold cellPay <;> infer_instance

/-- One round: at the barrier a unit from each neighbour, at an arrival's and a transfer's semaphore the segment's credit. -/
def rd : Rounds.Schedule (GSem nD τ sig) Dir 𝕄 where
  duties g r := if r = 0 ∧ g.1.2 = .tc then (kind g.2).elim ∅ cellDuties else ∅
  unitless _ := False
  amount g _ _ := (kind g.2).elim 1 cellAmount
  payload g _ d := (kind g.2).elim iprop(emp) fun k => cellPay xs g.1.1 k d
  amount_pos g _ _ _ := by
    rcases kind g.2 with _ | _ | k
    · exact Nat.one_pos
    · exact Nat.one_pos
    · exact N_pos

instance rd_storable (g : GSem nD τ sig) (r : ℕ) (d : Dir) : BI.Storable (upEmb : UEmb _ 𝕄) ((rd xs).payload g r d) := by
  show BI.Storable upEmb ((kind g.2).elim iprop(emp) fun k => cellPay xs g.1.1 k d)
  rcases kind g.2 with _ | k
  · exact inferInstanceAs (BI.Storable upEmb (iprop(emp) : sProp 𝕄))
  · exact inferInstanceAs (BI.Storable upEmb (cellPay xs g.1.1 k d))

theorem duties_at (c : Dev nD) (k : Cell) : (rd xs).duties (cellAt c k) 0 = cellDuties k := by
  dsimp only [rd]; rw [if_pos ⟨rfl, rfl⟩, kind_csem]; rfl
theorem duties_later (g : GSem nD τ sig) : ∀ r, 1 ≤ r → (rd xs).duties g r = ∅ :=
  fun r hr => by dsimp only [rd]; rw [if_neg fun h => by omega]
theorem duties_unused (c : Dev nD) (s : Fin 4) : ∀ r, 0 ≤ r → (rd xs).duties (recvCell c (0, s)) r = ∅ := fun r _ => by
  rcases Nat.eq_zero_or_pos r with rfl | h
  · exact duties_at xs c _
  · exact duties_later xs _ r h
theorem amount_at (c : Dev nD) (k : Cell) (d : Dir) : (rd xs).amount (cellAt c k) 0 d = cellAmount k := by
  dsimp only [rd]; rw [kind_csem]; rfl
theorem payload_at (c : Dev nD) (k : Cell) (d : Dir) : (rd xs).payload (cellAt c k) 0 d = cellPay xs c k d := by
  dsimp only [rd]; rw [kind_csem]; rfl

theorem expect_at (c : Dev nD) (k : Cell) : (rd xs).expect (cellAt c k) 0 = (cellDuties k).card * cellAmount k := by
  unfold Schedule.expect Schedule.amountOf
  rw [duties_at, Finset.sum_congr rfl fun d _ => amount_at xs c k d, Finset.sum_const, smul_eq_mul]
theorem rest_at (c : Dev nD) (k : Cell) :
    bigSep ((rd xs).duties (cellAt c k) 0 \ ∅) (fun d => (rd xs).payload (cellAt c k) 0 d) = bigSep (cellDuties k) (cellPay xs c k) := by
  rw [Finset.sdiff_empty, duties_at]; exact bigSep_congr fun d _ => payload_at xs c k d

/-! ## What a device owes; the order of the waits -/

/-- The arrival a transfer pays. -/
def target (c : Dev nD) (e : Fin 15) (s : Fin 4) : GSem nD τ sig := recvCell (nbr c (dirOf e)) (dstOf e, s)

/-- What device `c` still owes when the steps `l` remain: the credit of each transfer not yet started. -/
def owed (c : Dev nD) : List Step → CellTallies nD τ sig Unit
  | [] => 0
  | .send e s :: l => owed c l + tallyAt (target c e s) () N
  | .recv _ _ :: l => owed c l
  | .comp _ :: l => owed c l
  | .done _ _ :: l => owed c l

/-- What it owes at launch: that and a unit to each neighbour's barrier. -/
def O₀ (c : Dev nD) : CellTallies nD τ sig Unit :=
  owed c allSteps + tallyAt (barCell (nbr c .chord)) () 1 + tallyAt (barCell (nbr c .right)) () 1 + tallyAt (barCell (nbr c .left)) () 1

/-- The stage in which a slot is waited for and its place in the stage. -/
def stageOf : Fin 16 → ℕ := ![0, 1, 3, 5, 7, 7, 6, 4, 2, 1, 3, 5, 7, 7, 6, 4]
def placeOf : Fin 16 → ℕ := ![0, 0, 0, 0, 2, 0, 0, 0, 0, 1, 1, 1, 3, 1, 1, 1]

/-- The waits' order: the barrier's before the arrivals', these as the kernel waits for them. -/
def cellLv : Cell → ℕ
  | none => 1
  | some (.inl p) => 2 + (16 * stageOf p.1 + 4 * p.2.val + placeOf p.1)
  | some (.inr _) => 0
def lv (g : GSem nD τ sig) (_ : Unit) : ℕ := (kind g.2).elim 0 cellLv
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Cell) (u : Unit) : lv (cellAt c k) u = cellLv k := by
  unfold lv; rw [kind_csem]; rfl

theorem owed_pos {c : Dev nD} {l : List Step} {g : GSem nD τ sig} {u : Unit} (h : 0 < owed c l g u) :
    ∃ e s, Step.send e s ∈ l ∧ g = target c e s := by
  induction l with
  | nil => exact absurd h (Nat.lt_irrefl 0)
  | cons o l ih =>
    have tail : 0 < owed c l g u → ∃ e s, Step.send e s ∈ o :: l ∧ g = target c e s := fun h' => by
      obtain ⟨e, s, hm, hg⟩ := ih h'
      exact ⟨e, s, List.mem_cons_of_mem _ hm, hg⟩
    cases o with
    | send e s =>
      unfold owed at h
      rw [Pi.add_apply, Finsupp.add_apply, tallyAt_apply] at h
      by_cases hg : g = target c e s ∧ u = ()
      · exact ⟨e, s, List.mem_cons_self, hg.1⟩
      · rw [if_neg hg] at h; exact tail h
    | recv j s => exact tail h
    | comp j => exact tail h
    | done e s => exact tail h

theorem O₀_pos {c : Dev nD} {g : GSem nD τ sig} {u : Unit} (h : 0 < O₀ c g u) :
    (∃ e s, g = target c e s) ∨ ∃ d, g = barCell (nbr c d) := by
  unfold O₀ at h
  rw [Pi.add_apply, Finsupp.add_apply, Pi.add_apply, Finsupp.add_apply, Pi.add_apply, Finsupp.add_apply, tallyAt_apply, tallyAt_apply,
    tallyAt_apply] at h
  by_cases h1 : ∃ d, g = barCell (nbr c d)
  · exact Or.inr h1
  · rw [if_neg fun h' => h1 ⟨_, h'.1⟩, if_neg fun h' => h1 ⟨_, h'.1⟩, if_neg fun h' => h1 ⟨_, h'.1⟩] at h
    simp only [Nat.add_zero] at h
    obtain ⟨e, s, -, hg⟩ := owed_pos h
    exact Or.inl ⟨e, s, hg⟩

/-- A device may wait at a cell that lies before everything it owes. -/
theorem mayWait_owed (c : Dev nD) (sm : SemLoc sig) (l : List Step)
    (h : ∀ e s, Step.send e s ∈ l → lv ((c : Thread nD τ), sm) () < cellLv (some (.inl (dstOf e, s)))) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by obtain ⟨e, s, -, rfl⟩ := owed_pos hg; exact Finset.mem_singleton_self _)
    (fun p hp => by rw [Finset.mem_singleton.mp hp])
    (fun g u hg => by obtain ⟨e, s, hm, rfl⟩ := owed_pos hg; unfold target; rw [lv_at]; exact h e s hm)

/-- The pipeline's own waits lie before everything a device owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hk : kind (.dma q) = none := by
    unfold kind Function.partialInv
    rw [dif_neg]
    rintro ⟨_ | p | p, h⟩
    · cases h
    · injection h with h; have := recvS_val p.1 p.2; rw [h] at this; omega
    · injection h with h; have := sendS_val p.1 p.2; rw [h] at this; omega
  rcases hO with rfl | rfl
  · refine MayOwe.of_cut (L := L) (lev := lv) 0 (fun p hp => by rw [Finset.mem_singleton.mp hp, L_tc]; exact Finset.mem_singleton_self _)
      (fun g u hg => by rcases O₀_pos hg with ⟨e, s, rfl⟩ | ⟨d, rfl⟩ <;> exact Finset.mem_singleton_self _)
      (fun p hp => by rw [Finset.mem_singleton.mp hp]; unfold lv; rw [hk]; exact le_refl 0)
      (fun g u hg => by
        rcases O₀_pos hg with ⟨e, s, rfl⟩ | ⟨d, rfl⟩
        · unfold target; rw [lv_at]; exact Nat.lt_of_lt_of_le Nat.zero_lt_two (Nat.le_add_right _ _)
        · rw [lv_at]; exact Nat.one_pos)
  · rw [MayWait_zero]; iintro -; iempintro

end Cert.GatherProof

end
-- ==== Proof.State.lean ====
/-
# What a device holds between two steps

`State c l`: what device `c` holds when the steps `l` remain. Every part is one item per transfer, per arrival or per
quarter of a segment, decided by which of its steps remain; a step changes the items it names and no others.
-/
module

public import proofs.«01_k».proof.Proof.Protocol

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S64x1024.Idx → Elt F .bf16) (ws : Dev nD → S1024x64.Idx → Elt F .bf16)

/-! ## The items -/

/-- A transfer: before its start the two tokens it pays with and the segment it writes; until it is waited for the credit
    of that wait. -/
def sndSt (c : Dev nD) (l : List Step) (p : Fin 15 × Fin 4) : sProp 𝕄 :=
  if Step.send p.1 p.2 ∈ l then
    iprop(atPos ER (sendCell c p) 0 ∅ 0 ∗ dutyTok ER (sendCell c p) 0 .left ∗ dutyTok ER (target c p.1 p.2) 0 .left
      ∗ ∃ f, segPts (nbr c (dirOf p.1)) (dstOf p.1, p.2) fullShare f)
  else if Step.done p.1 p.2 ∈ l then iprop(atPos ER (sendCell c p) 0 ∅ 0 ∗ cred (tallyAt (sendCell c p) () N))
  else atPos ER (sendCell c p) 1 ∅ 0

/-- An arrival: until it is waited for the credit of that wait. -/
def rcvSt (c : Dev nD) (l : List Step) (p : Fin 16 × Fin 4) : sProp 𝕄 :=
  if Step.recv p.1 p.2 ∈ l then iprop(atPos ER (recvCell c p) 0 ∅ 0 ∗ cred (tallyAt (recvCell c p) () N))
  else atPos ER (recvCell c p) (if p.1 = 0 then 0 else 1) ∅ 0

/-- Whether a quarter of a segment is away: not arrived, or taken by a transfer in progress. -/
def Away (l : List Step) (p : Fin 16 × Fin 4) (k : Quarter) : Prop :=
  Step.recv p.1 p.2 ∈ l ∨ ∃ e, srcOf e = p.1 ∧ leafOf e = k ∧ Step.send e p.2 ∉ l ∧ Step.done e p.2 ∈ l

open Classical in
/-- A quarter of a segment. -/
def lfSt (c : Dev nD) (l : List Step) (p : Fin 16 × Fin 4) (k : Quarter) : sProp 𝕄 :=
  if Away l p k then iprop(emp) else segPts c p (quarter k) (slotsOf xs c)
/-- The four quarters of a segment. -/
def slotSt (c : Dev nD) (l : List Step) (p : Fin 16 × Fin 4) : sProp 𝕄 := bigSep Finset.univ (lfSt xs c l p)

/-- Rows as the one block of a three-axis vector. -/
def slab (v : S64x1024.Idx → Elt F .bf16) : Vec F S1x64x1024 .bf16 := fun i => v (ix2 (i 1 : Fin 64) (i 2 : Fin 1024))
/-- The block of the result computed from rows `v` and columns `w`. -/
def blk (v : S64x1024.Idx → Elt F .bf16) (w : S1024x64.Idx → Elt F .bf16) : S64x64.Idx → Elt F .f32 := k0_pay3 (slab v) (k0_pay2 w)

/-- Where the block of slot `j` lies in the result. -/
abbrev outRect (c : Dev nD) (j : Fin 16) : Rect S1024x64 := Rect.unit (s := S1024x64) (offOf c j) S64x64.size (off_inb c j)

abbrev oPts (c : Dev nD) (f : S1024x64.Idx → Elt F .f32) : sProp 𝕄 := ((c : Thread nD τ).loc cc0_stg2_0) ↦{fullShare} f
abbrev wPts (c : Dev nD) (f : S1024x64.Idx → Elt F .bf16) : sProp 𝕄 := ((c : Thread nD τ).loc cc0_scratch1) ↦{fullShare} f

/-- The blocks computed so far. -/
def Computed (c : Dev nD) (l : List Step) (f : S1024x64.Idx → Elt F .f32) : Prop :=
  ∀ j, Step.comp j ∉ l → ∀ y : S64x64.Idx, f ((outRect c j).emb y) = blk (xs (orig c j)) (ws c) y

def sndAll (c : Dev nD) (l : List Step) : sProp 𝕄 := bigSep Finset.univ (sndSt c l)
def rcvAll (c : Dev nD) (l : List Step) : sProp 𝕄 := bigSep Finset.univ (rcvSt c l)
def slotAll (c : Dev nD) (l : List Step) : sProp 𝕄 := bigSep Finset.univ (slotSt xs c l)
def outSt (c : Dev nD) (l : List Step) : sProp 𝕄 := iprop(∃ f, ⌜Computed xs ws c l f⌝ ∗ oPts c f)
def owesSt (c : Dev nD) (l : List Step) : sProp 𝕄 := iprop(∃ W, owes (c : Thread nD τ) (owed c l) W)

/-- What device `c` holds when the steps `l` remain. -/
def State (c : Dev nD) (l : List Step) : sProp 𝕄 :=
  iprop(sndAll c l ∗ rcvAll c l ∗ slotAll xs c l ∗ wPts c (k0_pay2 (ws c)) ∗ outSt xs ws c l ∗ owesSt c l)

/-! ## The order the steps must keep -/

/-- What must remain, and what must not, for a step to be taken. -/
def okStep : Step → List Step → Prop
  | .send e s, l => Step.send e s ∉ l ∧ Step.done e s ∈ l ∧ Step.recv (srcOf e) s ∉ l
  | .recv j s, l => j ≠ 0 ∧ Step.recv j s ∉ l ∧ (∀ e, srcOf e = j → Step.send e s ∈ l)
      ∧ (∀ o ∈ l, match o with
          | .send e s' => 16 * stageOf j + 4 * s.val + placeOf j < 16 * stageOf (dstOf e) + 4 * s'.val + placeOf (dstOf e)
          | _ => True)
  | .comp j, l => Step.comp j ∉ l ∧ ∀ s, Step.recv j s ∉ l
  | .done e s, l => Step.done e s ∉ l ∧ Step.send e s ∉ l ∧ Step.recv (srcOf e) s ∉ l
      ∧ (∀ o ∈ l, match o with
          | .send _ _ => False
          | _ => True)

instance (o : Step) (l : List Step) : Decidable (okStep o l) := by
  have h1 (j : Fin 16) (s : Fin 4) (o : Step) : Decidable (match o with
          | .send e s' => 16 * stageOf j + 4 * s.val + placeOf j < 16 * stageOf (dstOf e) + 4 * s'.val + placeOf (dstOf e)
          | _ => True) := by cases o <;> infer_instance
  have h2 (o : Step) : Decidable (match o with
          | .send _ _ => False
          | _ => True) := by cases o <;> infer_instance
  cases o <;> unfold okStep <;> infer_instance

/-- Every step of a list may be taken when it comes. -/
def okSteps : List Step → Prop
  | [] => True
  | o :: l => okStep o l ∧ okSteps l

instance okStepsDec : (l : List Step) → Decidable (okSteps l)
  | [] => inferInstanceAs (Decidable True)
  | o :: l => @instDecidableAnd _ _ _ (okStepsDec l)

/-- The kernel's order is such an order. -/
theorem okSteps_all : okSteps allSteps := by decide +kernel

/-! ## One item at a time -/

section Update
variable {I : Type} [Fintype I] [DecidableEq I]

/-- Take one item out of a family; put a new one back where the families agree elsewhere. -/
theorem swap_at (Φ Φ' : I → sProp 𝕄) (i : I) (h : ∀ x, x ≠ i → Φ x = Φ' x) :
    bigSep Finset.univ Φ ⊢ iprop(Φ i ∗ (Φ' i -∗ bigSep Finset.univ Φ')) := by
  rw [bigSep_univ_at Φ i, bigSep_univ_at Φ' i, bigSep_congr fun x hx => h x (Finset.ne_of_mem_erase hx)]
  iintro ⟨H, HR⟩
  isplitl [H]; · iexact H
  iintro H'
  isplitl [H']; · iexact H'
  iexact HR

end Update

end Cert.GatherProof

end
-- ==== Proof.Steps.lean ====
/-
# One step at a time

Each kind of step takes `State c (o :: l)` to `State c l`; so the whole list takes `State c allSteps` to `State c []`.
-/
module

public import proofs.«01_k».proof.Proof.State

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (xs : Dev nD → S64x1024.Idx → Elt F .bf16) (ws : Dev nD → S1024x64.Idx → Elt F .bf16)

/-! ## What every device knows -/

/-- Every cell's invariant, and that every cell has reached its round. -/
def records (K : Dev nD × Cell → ℕ) : sProp 𝕄 :=
  iprop((bigSep Finset.univ fun ck : Dev nD × Cell => cellInv ER (rd xs) (K ck) (cellAt ck.1 ck.2))
    ∗ bigSep Finset.univ fun ck : Dev nD × Cell => reached ER (cellAt ck.1 ck.2) 0)

instance records_persistent (K : Dev nD × Cell → ℕ) : BI.Persistent (records xs K) := by unfold records; infer_instance

theorem inv_at (K : Dev nD × Cell → ℕ) (c : Dev nD) (k : Cell) : records xs K ⊢ cellInv ER (rd xs) (K (c, k)) (cellAt c k) := by
  have h : (bigSep Finset.univ fun ck : Dev nD × Cell => (cellInv ER (rd xs) (K ck) (cellAt ck.1 ck.2) : sProp 𝕄))
      ⊢ cellInv ER (rd xs) (K (c, k)) (cellAt c k) := bigSep_elim (Finset.mem_univ (c, k))
  unfold records
  iintro ⟨H, -⟩
  iapply h; iexact H
theorem reached_at (K : Dev nD × Cell → ℕ) (c : Dev nD) (k : Cell) : records xs K ⊢ reached ER (cellAt c k) 0 := by
  have h : (bigSep Finset.univ fun ck : Dev nD × Cell => (reached ER (cellAt ck.1 ck.2) 0 : sProp 𝕄)) ⊢ reached ER (cellAt c k) 0 :=
    bigSep_elim (Finset.mem_univ (c, k))
  unfold records
  iintro ⟨-, H⟩
  iapply h; iexact H

/-! ## Quarters of a segment -/

theorem leaves_eq (c : Dev nD) (p : Fin 16 × Fin 4) (f : S16x64x1024.Idx → Elt F .bf16) :
    (segPts c p fullShare f : sProp 𝕄) = bigSep Finset.univ fun k : Quarter => segPts c p (quarter k) f := by
  unfold segPts
  exact ShareLeaves.pointsTo_leaves _ _ 2 fullShare

theorem lfSt_away {c : Dev nD} {l : List Step} {p : Fin 16 × Fin 4} {k : Quarter} (h : Away l p k) : lfSt xs c l p k = iprop(emp) := if_pos h
theorem lfSt_here {c : Dev nD} {l : List Step} {p : Fin 16 × Fin 4} {k : Quarter} (h : ¬ Away l p k) :
    lfSt xs c l p k = segPts c p (quarter k) (slotsOf xs c) := if_neg h

theorem lfSt_congr {c : Dev nD} {l l' : List Step} {p : Fin 16 × Fin 4} {k : Quarter} (h : Away l p k ↔ Away l' p k) :
    lfSt xs c l p k = lfSt xs c l' p k := by
  by_cases ha : Away l p k
  · rw [lfSt_away xs ha, lfSt_away xs (h.mp ha)]
  · rw [lfSt_here xs ha, lfSt_here xs (mt h.mpr ha)]

/-- A segment not arrived is nowhere here; one of which nothing is away is held whole. -/
theorem slotSt_away {c : Dev nD} {l : List Step} {p : Fin 16 × Fin 4} (h : Step.recv p.1 p.2 ∈ l) : slotSt xs c l p = iprop(emp) := by
  unfold slotSt
  exact (bigSep_congr fun k' _ => lfSt_away xs (Or.inl h)).trans (bigSep_emp_const _)
theorem slotSt_here {c : Dev nD} {l : List Step} {p : Fin 16 × Fin 4} (h : ∀ k, ¬ Away l p k) :
    slotSt xs c l p = segPts c p fullShare (slotsOf xs c) := by
  unfold slotSt
  exact (bigSep_congr fun k' _ => lfSt_here xs (h k')).trans (leaves_eq c p _).symm

/-- One quarter out of all, and a new state of it back. -/
theorem quarter_swap (c : Dev nD) (l l' : List Step) (p : Fin 16 × Fin 4) (k : Quarter)
    (h : ∀ p' k', (p', k') ≠ (p, k) → (Away l p' k' ↔ Away l' p' k')) :
    slotAll xs c l ⊢ iprop(lfSt xs c l p k ∗ (lfSt xs c l' p k -∗ slotAll xs c l')) := by
  have hl : ∀ p' k', (p', k') ≠ (p, k) → lfSt xs c l p' k' = lfSt xs c l' p' k' := fun p' k' hne => lfSt_congr xs (h p' k' hne)
  unfold slotAll
  iintro H
  ihave H1 := (swap_at (slotSt xs c l) (slotSt xs c l') p fun p' hp => by
    unfold slotSt; exact bigSep_congr fun k' _ => hl p' k' fun e => hp (congrArg Prod.fst e)) $$ H
  icases H1 with ⟨Hp, Hback⟩
  unfold slotSt
  ihave H2 := (swap_at (lfSt xs c l p) (lfSt xs c l' p) k fun k' hk => hl p k' fun e => hk (congrArg Prod.snd e)) $$ Hp
  icases H2 with ⟨Hk, Hback'⟩
  isplitl [Hk]; · iexact Hk
  iintro Hk
  iapply Hback
  iapply Hback'
  iexact Hk

theorem sndSt_before {c : Dev nD} {l : List Step} {p : Fin 15 × Fin 4} (h : Step.send p.1 p.2 ∈ l) :
    (sndSt c l p : sProp 𝕄) = iprop(atPos ER (sendCell c p) 0 ∅ 0 ∗ dutyTok ER (sendCell c p) 0 .left ∗ dutyTok ER (target c p.1 p.2) 0 .left
      ∗ ∃ f, segPts (nbr c (dirOf p.1)) (dstOf p.1, p.2) fullShare f) := if_pos h
theorem sndSt_going {c : Dev nD} {l : List Step} {p : Fin 15 × Fin 4} (h : Step.send p.1 p.2 ∉ l) (h' : Step.done p.1 p.2 ∈ l) :
    (sndSt c l p : sProp 𝕄) = iprop(atPos ER (sendCell c p) 0 ∅ 0 ∗ cred (tallyAt (sendCell c p) () N)) := (if_neg h).trans (if_pos h')
theorem sndSt_over {c : Dev nD} {l : List Step} {p : Fin 15 × Fin 4} (h : Step.send p.1 p.2 ∉ l) (h' : Step.done p.1 p.2 ∉ l) :
    (sndSt c l p : sProp 𝕄) = atPos ER (sendCell c p) 1 ∅ 0 := (if_neg h).trans (if_neg h')
theorem rcvSt_before {c : Dev nD} {l : List Step} {p : Fin 16 × Fin 4} (h : Step.recv p.1 p.2 ∈ l) :
    (rcvSt c l p : sProp 𝕄) = iprop(atPos ER (recvCell c p) 0 ∅ 0 ∗ cred (tallyAt (recvCell c p) () N)) := if_pos h
theorem rcvSt_over {c : Dev nD} {l : List Step} {p : Fin 16 × Fin 4} (h : Step.recv p.1 p.2 ∉ l) :
    (rcvSt c l p : sProp 𝕄) = atPos ER (recvCell c p) (if p.1 = 0 then 0 else 1) ∅ 0 := if_neg h

/-- Step `o` takes a device that holds what `o :: l` asks for to one that holds what `l` asks for. -/
def Takes (K : Dev nD × Cell → ℕ) (c : Dev nD) (o : Step) (l : List Step) : Prop :=
  ∀ {α : Type} (k : PUnit → Prog (TpuEff nD τ sig (Elt F) Λ₀ .tc) α) (Q : α → sProp 𝕄),
    iprop(records xs K ∗ levAts L lv ∗ State xs ws c (o :: l)
        ∗ (State xs ws c l -∗ wp frame (wpE (defs₀ (F := F)) 𝒱₀ (c : Thread nD τ) none) Set.univ (k ⟨⟩) Q))
      ⊢ wp frame (wpE (defs₀ (F := F)) 𝒱₀ (c : Thread nD τ) none) Set.univ (o.prog c >>= k) Q

/-! ## What a step leaves as it was -/

theorem sndAll_cons {c : Dev nD} {l : List Step} {o : Step} (h : ∀ e s, Step.send e s ≠ o ∧ Step.done e s ≠ o) :
    (sndAll c (o :: l) : sProp 𝕄) = sndAll c l := by
  unfold sndAll sndSt
  exact bigSep_congr fun p _ => by simp only [List.mem_cons, (h p.1 p.2).1, (h p.1 p.2).2, false_or]
theorem rcvAll_cons {c : Dev nD} {l : List Step} {o : Step} (h : ∀ p : Fin 16 × Fin 4, Step.recv p.1 p.2 ≠ o) :
    (rcvAll c (o :: l) : sProp 𝕄) = rcvAll c l := by
  unfold rcvAll rcvSt
  exact bigSep_congr fun p _ => by simp only [List.mem_cons, h p, false_or]

/-! ## A transfer's start -/

theorem duties_recv {p : Fin 16 × Fin 4} (h : p.1 ≠ 0) : cellDuties (some (.inl p)) = {.left} := if_neg h

/-- The rule for a transfer's start at this protocol's cells. -/
theorem wp_send_seg (K : Dev nD × Cell → ℕ) (c : Dev nD) (e : Fin 15) (s : Fin 4) (fd : S16x64x1024.Idx → Elt F .bf16) (l : List Step)
    (W : Waits sig Unit) {hsc : (segM (dstOf e) s : Memref sig (Dev.tc (nbr c (dirOf e)) : Thread nD τ).2.kind .vmem S16x1024 .bf16).view.ref.isScScratch = false}
    {hsrc : (segM (srcOf e) s).view.WordExact} {hdst : (segM (dstOf e) s).view.WordExact}
    {hsem : DmaTarget.Typed .vmem (.dma (recvS (dstOf e) s)) (.remote (Dev.tc (nbr c (dirOf e)) : Thread nD τ) (segM (dstOf e) s) (.dma (sendS e s)) hsc)}
    {α : Type} {Q : α → sProp 𝕄} {k : PUnit → Prog (TpuEff nD τ sig (Elt F) Λ₀ .tc) α} :
    iprop(cellInv ER (rd xs) (K (c, some (.inr (e, s)))) (sendCell c (e, s)) ∗ cellInv ER (rd xs) (K (nbr c (dirOf e), some (.inl (dstOf e, s)))) (target c e s)
        ∗ segPts c (srcOf e, s) (quarter (leafOf e)) (slotsOf xs c) ∗ segPts (nbr c (dirOf e)) (dstOf e, s) fullShare fd
        ∗ owes (c : Thread nD τ) (owed c (.send e s :: l)) W
        ∗ dutyTok ER (sendCell c (e, s)) 0 .left ∗ reached ER (sendCell c (e, s)) 0
        ∗ dutyTok ER (target c e s) 0 .left ∗ reached ER (target c e s) 0)
      ⊢ iprop(((cred (tallyAt (sendCell c (e, s)) () N) ∗ owes (c : Thread nD τ) (owed c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (segM (srcOf e) s) (.remote (Dev.tc (nbr c (dirOf e)) : Thread nD τ) (segM (dstOf e) s) (.dma (sendS e s)) hsc)
                (.dma (recvS (dstOf e) s)) hsrc hdst hsem) k) Q) := by
  unfold segPts
  exact Rounds.wp_send_pointsTo 𝒱₀ ER (rd xs) (c : Thread nD τ) none (c' := (nbr c (dirOf e) : Thread nD τ)) (src := segM (srcOf e) s)
    (dst := segM (dstOf e) s) (sS := .dma (sendS e s)) (sem := .dma (recvS (dstOf e) s)) (κ₁ := K (c, some (.inr (e, s))))
    (κ₂ := K (nbr c (dirOf e), some (.inl (dstOf e, s)))) (r₁ := 0) (r₂ := 0) (d₁ := .left) (d₂ := .left) (fd := fd)
    (by rw [duties_at xs c (some (.inr (e, s)))]; exact Finset.mem_singleton_self _)
    (by rw [duties_at xs _ (some (.inl (dstOf e, s))), duties_recv (dst_ne e)]; exact Finset.mem_singleton_self _)
    () () N (N_eq (dstOf e) s) (amount_at xs c (some (.inr (e, s))) .left) (amount_at xs _ (some (.inl (dstOf e, s))) .left) (owed c l) rfl (W := W)
    (by rw [payload_at xs c (some (.inr (e, s)))]; exact BI.Entails.refl _)
    (by rw [payload_at xs _ (some (.inl (dstOf e, s)))]; exact Entails.of_eq (pointsTo_congr (land_eq xs c e s fd)))

theorem step_send (K : Dev nD × Cell → ℕ) (c : Dev nD) (e : Fin 15) (s : Fin 4) (l : List Step) (h : okStep (.send e s) l) :
    Takes xs ws K c (.send e s) l := by
  obtain ⟨hs, hd, hr⟩ := h
  intro α k Q
  simp only [Step.prog, Prog.lift, Prog.bind_op, Prog.bind_ret, Prog.pure_eq_ret]
  have h1 : (sndAll c (.send e s :: l) : sProp 𝕄) ⊢ iprop((atPos ER (sendCell c (e, s)) 0 ∅ 0 ∗ dutyTok ER (sendCell c (e, s)) 0 .left
      ∗ dutyTok ER (target c e s) 0 .left ∗ ∃ f, segPts (nbr c (dirOf e)) (dstOf e, s) fullShare f)
      ∗ ((atPos ER (sendCell c (e, s)) 0 ∅ 0 ∗ cred (tallyAt (sendCell c (e, s)) () N)) -∗ sndAll c l)) :=
    (swap_at (sndSt c (.send e s :: l)) (sndSt c l) (e, s) fun p hp => by
      have : Step.send p.1 p.2 ≠ Step.send e s := fun h => hp (by injection h with h1 h2; exact Prod.ext h1 h2)
      unfold sndSt; simp [this]).trans
    (Entails.of_eq (by rw [sndSt_before (p := (e, s)) List.mem_cons_self, sndSt_going (p := (e, s)) hs hd]; rfl))
  have hq : ¬ Away (.send e s :: l) (srcOf e, s) (leafOf e) := by
    rintro (h | ⟨e', h1, h2, h3, -⟩)
    · simp at h; exact hr h
    · rw [leaf_inj h1 h2] at h3; simp at h3
  have hq' : Away l (srcOf e, s) (leafOf e) := Or.inr ⟨e, rfl, rfl, hs, hd⟩
  have h2 : slotAll xs c (.send e s :: l) ⊢ iprop(segPts c (srcOf e, s) (quarter (leafOf e)) (slotsOf xs c) ∗ (emp -∗ slotAll xs c l)) :=
    (quarter_swap xs c (.send e s :: l) l (srcOf e, s) (leafOf e) fun p' k' hne => by
      unfold Away
      have (e' : Fin 15) (hj : srcOf e' = p'.1) (hk : leafOf e' = k') : Step.send e' p'.2 ≠ Step.send e s := fun h => hne (by
        injection h with he hs'; exact Prod.ext (Prod.ext (hj.symm.trans (congrArg srcOf he)) hs') (hk.symm.trans (congrArg leafOf he)))
      refine or_congr (by simp) (exists_congr fun e' => and_congr_right fun hj => and_congr_right fun hk => ?_)
      simp [this e' hj hk]).trans
    (Entails.of_eq (by rw [lfSt_here xs hq, lfSt_away xs hq']))
  have h3 : (rcvAll c (.send e s :: l) : sProp 𝕄) = rcvAll c l := rcvAll_cons fun p => by simp
  have h4 (f) (hf : Computed xs ws c (.send e s :: l) f) : Computed xs ws c l f := fun j hj => hf j (by simpa using hj)
  unfold State outSt owesSt
  rw [h3]
  iintro ⟨#HR, -, ⟨HS, HV, HL, HW, ⟨%f, %hf, HO⟩, ⟨%W, Ho⟩⟩, Hk⟩
  ihave H1 := h1 $$ HS
  icases H1 with ⟨⟨Hat, Htk, Htk', ⟨%fd, Hdst⟩⟩, HSback⟩
  ihave H2 := h2 $$ HL
  icases H2 with ⟨Hq, HLback⟩
  iapply (wp_send_seg xs K c e s fd l W) $$ [Hq Hdst Ho Htk Htk']
  · isplitr; · iapply (inv_at xs K c (some (.inr (e, s)))); iexact HR
    isplitr; · iapply (inv_at xs K (nbr c (dirOf e)) (some (.inl (dstOf e, s)))); iexact HR
    isplitl [Hq]; · iexact Hq
    isplitl [Hdst]; · iexact Hdst
    isplitl [Ho]; · iexact Ho
    isplitl [Htk]; · iexact Htk
    isplitr; · iapply (reached_at xs K c (some (.inr (e, s)))); iexact HR
    isplitl [Htk']; · iexact Htk'
    iapply (reached_at xs K (nbr c (dirOf e)) (some (.inl (dstOf e, s)))); iexact HR
  iintro ⟨Hc, Ho⟩
  iapply Hk
  isplitl [Hat Hc HSback]
  · iapply HSback
    isplitl [Hat] <;> iassumption
  isplitl [HV]
  · iexact HV
  isplitl [HLback]
  · iapply HLback; iempintro
  isplitl [HW]; · iexact HW
  isplitl [HO]
  · iexists f; isplitr
    · ipureintro; exact h4 f hf
    · iexact HO
  iexists W; iexact Ho

/-! ## An arrival's wait -/

theorem step_recv (K : Dev nD × Cell → ℕ) (c : Dev nD) (j : Fin 16) (s : Fin 4) (l : List Step) (h : okStep (.recv j s) l) :
    Takes xs ws K c (.recv j s) l := by
  obtain ⟨h0, hr, hn, hlv⟩ := h
  intro α k Q
  simp only [Step.prog, Prog.lift, Prog.bind_op, Prog.bind_ret, Prog.pure_eq_ret]
  have hne {p : Fin 16 × Fin 4} (hp : p ≠ (j, s)) : Step.recv p.1 p.2 ≠ Step.recv j s :=
    fun h => hp (by injection h with h1 h2; exact Prod.ext h1 h2)
  have h1 : (rcvAll c (.recv j s :: l) : sProp 𝕄) ⊢ iprop((atPos ER (recvCell c (j, s)) 0 ∅ 0 ∗ cred (tallyAt (recvCell c (j, s)) () N))
      ∗ (atPos ER (recvCell c (j, s)) 1 ∅ 0 -∗ rcvAll c l)) :=
    (swap_at (rcvSt c (.recv j s :: l)) (rcvSt c l) (j, s) fun p hp => by unfold rcvSt; simp [hne hp]).trans
    (Entails.of_eq (by rw [rcvSt_before (p := (j, s)) List.mem_cons_self, rcvSt_over (p := (j, s)) hr, if_neg h0]; rfl))
  have h2 : slotAll xs c (.recv j s :: l) ⊢ iprop(emp ∗ (segPts c (j, s) fullShare (slotsOf xs c) -∗ slotAll xs c l)) :=
    (swap_at (slotSt xs c (.recv j s :: l)) (slotSt xs c l) (j, s) fun p hp => by
      unfold slotSt; exact bigSep_congr fun k' _ => lfSt_congr xs (by unfold Away; simp [hne hp])).trans
    (Entails.of_eq (by
      rw [slotSt_away xs (p := (j, s)) List.mem_cons_self, slotSt_here xs (p := (j, s)) (by
        rintro k' (h | ⟨e, he, -, hse, -⟩)
        · exact hr h
        · exact hse (hn e he))]
      rfl))
  have h3 : (sndAll c (.recv j s :: l) : sProp 𝕄) = sndAll c l := sndAll_cons fun e s => ⟨by simp, by simp⟩
  have h4 (f) (hf : Computed xs ws c (.recv j s :: l) f) : Computed xs ws c l f := fun j hj => hf j (by simpa using hj)
  have hw : (levAts L lv : sProp 𝕄) ⊢ MayWait (c : Thread nD τ) (csem (some (.inl (j, s)))) () (owed c l) :=
    mayWait_owed c _ l fun e s' he => by rw [lv_at]; exact Nat.add_lt_add_left (hlv _ he) 2
  unfold State outSt owesSt
  rw [h3]
  iintro ⟨#HR, #HL', ⟨HS, HV, HL, HW, ⟨%f, %hf, HO⟩, ⟨%W, Ho⟩⟩, Hk⟩
  ihave H1 := h1 $$ HV
  icases H1 with ⟨⟨Hat, Hc⟩, HVback⟩
  ihave H2 := h2 $$ HL
  icases H2 with ⟨-, HLback⟩
  iapply (Rounds.wp_wait_rest_token 𝒱₀ ER (rd xs) (c : Thread nD τ) none (κ := K (c, some (.inl (j, s))))
      (wpE_waitDma2_eq 𝒱₀ (c : Thread nD τ) none Set.univ) (Set.mem_univ _) () (O := owed c l) (W := W) (R := 0) (m := 0) (T := ∅)
      (by rw [Nat.zero_add, expect_at xs c (some (.inl (j, s))), duties_recv h0]; exact (Nat.one_mul N).symm)) $$ [Hc Ho Hat]
  · isplitr; · iapply (inv_at xs K c (some (.inl (j, s)))); iexact HR
    isplitl [Hc]; · iexact Hc
    isplitl [Ho]; · iexact Ho
    isplitr; · iapply hw; iexact HL'
    iexact Hat
  iintro ⟨Ho, Hat, -, Hpay⟩
  ihave Hp := (Entails.of_eq ((rest_at xs c (some (.inl (j, s)))).trans
    (show _ = segPts c (j, s) fullShare (slotsOf xs c) by rw [duties_recv h0, bigSep_singleton]; rfl))) $$ Hpay
  iapply Hk
  isplitl [HS]; · iexact HS
  isplitl [Hat HVback]; · iapply HVback; iexact Hat
  isplitl [Hp HLback]; · iapply HLback; iexact Hp
  isplitl [HW]; · iexact HW
  isplitl [HO]
  · iexists f; isplitr
    · ipureintro; exact h4 f hf
    · iexact HO
  iexists (insert (SemLoc.dma (recvS j s), ()) W); iexact Ho

/-! ## The wait for a transfer's source -/

/-- When no transfer remains nothing is owed. -/
theorem owed_none {c : Dev nD} {l : List Step} (h : ∀ e s, Step.send e s ∉ l) : owed c l = 0 := by
  induction l with
  | nil => rfl
  | cons o l ih =>
    have ih' := ih fun e s hm => h e s (List.mem_cons_of_mem _ hm)
    cases o with
    | send e s => exact absurd List.mem_cons_self (h e s)
    | recv j s => exact ih'
    | comp j => exact ih'
    | done e s => exact ih'

theorem step_done (K : Dev nD × Cell → ℕ) (c : Dev nD) (e : Fin 15) (s : Fin 4) (l : List Step) (h : okStep (.done e s) l) :
    Takes xs ws K c (.done e s) l := by
  obtain ⟨hd, hs, hr, hno⟩ := h
  intro α k Q
  simp only [Step.prog, Prog.lift, Prog.bind_op, Prog.bind_ret, Prog.pure_eq_ret]
  have hs' : Step.send e s ∉ Step.done e s :: l := by simpa using hs
  have h1 : (sndAll c (.done e s :: l) : sProp 𝕄) ⊢ iprop((atPos ER (sendCell c (e, s)) 0 ∅ 0 ∗ cred (tallyAt (sendCell c (e, s)) () N))
      ∗ (atPos ER (sendCell c (e, s)) 1 ∅ 0 -∗ sndAll c l)) :=
    (swap_at (sndSt c (.done e s :: l)) (sndSt c l) (e, s) fun p hp => by
      have : Step.done p.1 p.2 ≠ Step.done e s := fun h => hp (by injection h with h1 h2; exact Prod.ext h1 h2)
      unfold sndSt; simp [this]).trans
    (Entails.of_eq (by rw [sndSt_going (p := (e, s)) hs' List.mem_cons_self, sndSt_over (p := (e, s)) hs hd]; rfl))
  have hq : Away (.done e s :: l) (srcOf e, s) (leafOf e) := Or.inr ⟨e, rfl, rfl, hs', List.mem_cons_self⟩
  have hq' : ¬ Away l (srcOf e, s) (leafOf e) := by
    rintro (h | ⟨e', hj, hk, -, h3⟩)
    · exact hr h
    · rw [leaf_inj hj hk] at h3; exact hd h3
  have h2 : slotAll xs c (.done e s :: l) ⊢ iprop(emp ∗ (segPts c (srcOf e, s) (quarter (leafOf e)) (slotsOf xs c) -∗ slotAll xs c l)) :=
    (quarter_swap xs c (.done e s :: l) l (srcOf e, s) (leafOf e) fun p' k' hne => by
      unfold Away
      have (e' : Fin 15) (hj : srcOf e' = p'.1) (hk : leafOf e' = k') : Step.done e' p'.2 ≠ Step.done e s := fun h => hne (by
        injection h with he hs'; exact Prod.ext (Prod.ext (hj.symm.trans (congrArg srcOf he)) hs') (hk.symm.trans (congrArg leafOf he)))
      refine or_congr (by simp) (exists_congr fun e' => and_congr_right fun hj => and_congr_right fun hk => ?_)
      simp [this e' hj hk]).trans
    (Entails.of_eq (by rw [lfSt_away xs hq, lfSt_here xs hq']))
  have h3 : (rcvAll c (.done e s :: l) : sProp 𝕄) = rcvAll c l := rcvAll_cons fun p => by simp
  have h4 (f) (hf : Computed xs ws c (.done e s :: l) f) : Computed xs ws c l f := fun j hj => hf j (by simpa using hj)
  have ho : owed c (.done e s :: l) = 0 := owed_none (l := l) fun e' s' hm => hno _ hm
  have ho' : owed c l = 0 := ho
  unfold State outSt owesSt
  rw [h3, ho, ho']
  iintro ⟨#HR, -, ⟨HS, HV, HL, HW, ⟨%f, %hf, HO⟩, ⟨%W, Ho⟩⟩, Hk⟩
  ihave H1 := h1 $$ HS
  icases H1 with ⟨⟨Hat, Hc⟩, HSback⟩
  ihave H2 := h2 $$ HL
  icases H2 with ⟨-, HLback⟩
  iapply (Rounds.wp_wait_rest_token 𝒱₀ ER (rd xs) (c : Thread nD τ) none (κ := K (c, some (.inr (e, s))))
      (wpE_waitDma2_eq 𝒱₀ (c : Thread nD τ) none Set.univ) (Set.mem_univ _) () (O := 0) (W := W) (R := 0) (m := 0) (T := ∅)
      (by rw [Nat.zero_add, expect_at xs c (some (.inr (e, s)))]; exact (Nat.one_mul N).symm)) $$ [Hc Ho Hat]
  · isplitr; · iapply (inv_at xs K c (some (.inr (e, s)))); iexact HR
    isplitl [Hc]; · iexact Hc
    isplitl [Ho]; · iexact Ho
    isplitr; · rw [MayWait_zero]; iempintro
    iexact Hat
  iintro ⟨Ho, Hat, -, Hpay⟩
  ihave Hp := (Entails.of_eq ((rest_at xs c (some (.inr (e, s)))).trans
    (show _ = segPts c (srcOf e, s) (quarter (leafOf e)) (slotsOf xs c) from bigSep_singleton))) $$ Hpay
  iapply Hk
  isplitl [Hat HSback]; · iapply HSback; iexact Hat
  isplitl [HV]; · iexact HV
  isplitl [Hp HLback]; · iapply HLback; iexact Hp
  isplitl [HW]; · iexact HW
  isplitl [HO]
  · iexists f; isplitr
    · ipureintro; exact h4 f hf
    · iexact HO
  iexists (insert (SemLoc.dma (sendS e s), ()) W); iexact Ho

end Cert.GatherProof

end
-- ==== Proof.Compute.lean ====
/-
# The block of one slot

The computation reads a slot through the quarter no transfer takes, and writes the block of the result that belongs to the
device the slot comes from. With it every kind of step is done, and the list of all of them runs.
-/
module

public import proofs.«01_k».proof.Proof.Steps

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S64x1024.Idx → Elt F .bf16) (ws : Dev nD → S1024x64.Idx → Elt F .bf16)

/-! ## Reading a slot -/

abbrev slotPts (c : Dev nD) (j : Fin 16) (q : PosShare TreeShare) (f : S16x64x1024.Idx → Elt F .bf16) : sProp 𝕄 :=
  ((c : Thread nD τ).loc cc0_scratch0) ↦[(slotRect j).set]{q} f

/-- A slot is its four segments. -/
theorem slotPts_eq (c : Dev nD) (j : Fin 16) (q : PosShare TreeShare) (f : S16x64x1024.Idx → Elt F .bf16) :
    slotPts c j q f = bigSep Finset.univ fun s : Fin 4 => segPts c (j, s) q f := by
  have h := pointsTo_biUnion (Ix := Unit) (Val := Elt F) (Name := ℕ) (U := UU) (Lvl := ℕ) (ℓ := (c : Thread nD τ).loc cc0_scratch0) (q := q) (f := f) Finset.univ (fun s : Fin 4 => segSet j s)
    fun s _ s' _ hne => segSet_disjoint (p := (j, s)) (p' := (j, s')) fun h => hne (congrArg Prod.snd h)
  unfold segPts
  rw [← h]
  exact congrArg (fun S : Finset S16x64x1024.Idx => ((((c : Thread nD τ).loc cc0_scratch0) ↦[S]{q} f : sProp 𝕄))) (slot_cover j).symm

/-- An arrived slot can be read: one quarter of it is always here. -/
theorem slot_read (c : Dev nD) (l : List Step) (j : Fin 16) (h : ∀ s, Step.recv j s ∉ l) :
    slotAll xs c l ⊢ iprop(slotPts c j (quarter 3) (slotsOf xs c) ∗ (slotPts c j (quarter 3) (slotsOf xs c) -∗ slotAll xs c l)) := by
  have hq (s : Fin 4) : slotSt xs c l (j, s) ⊢ iprop(segPts c (j, s) (quarter 3) (slotsOf xs c)
      ∗ (segPts c (j, s) (quarter 3) (slotsOf xs c) -∗ slotSt xs c l (j, s))) :=
    (swap_at (lfSt xs c l (j, s)) (lfSt xs c l (j, s)) 3 fun _ _ => rfl).trans (Entails.of_eq (by
      rw [lfSt_here xs (p := (j, s)) (k := 3) (by
        rintro (hr | ⟨e, -, he, -⟩)
        · exact h s hr
        · exact leaf_ne e he)]
      rfl))
  have he : (bigSep Finset.univ fun s : Fin 4 => iprop(segPts c (j, s) (quarter 3) (slotsOf xs c)
        ∗ (segPts c (j, s) (quarter 3) (slotsOf xs c) -∗ slotSt xs c l (j, s))))
      = iprop(slotPts c j (quarter 3) (slotsOf xs c)
        ∗ bigSep Finset.univ fun s : Fin 4 => iprop(segPts c (j, s) (quarter 3) (slotsOf xs c) -∗ slotSt xs c l (j, s))) := by
    rw [bigSep_sep', slotPts_eq]
  have hw (s : Fin 4) : iprop(segPts c (j, s) (quarter 3) (slotsOf xs c) ∗ (segPts c (j, s) (quarter 3) (slotsOf xs c) -∗ slotSt xs c l (j, s)))
      ⊢ slotSt xs c l (j, s) := by
    iintro ⟨Ha, Hb⟩; iapply Hb; iexact Ha
  have h1 : bigSep Finset.univ (fun s : Fin 4 => slotSt xs c l (j, s)) ⊢ iprop(slotPts c j (quarter 3) (slotsOf xs c)
      ∗ bigSep Finset.univ fun s : Fin 4 => iprop(segPts c (j, s) (quarter 3) (slotsOf xs c) -∗ slotSt xs c l (j, s))) :=
    (bigSep_mono fun s _ => hq s).trans (Entails.of_eq he)
  have h2 : iprop(slotPts c j (quarter 3) (slotsOf xs c)
      ∗ bigSep Finset.univ fun s : Fin 4 => iprop(segPts c (j, s) (quarter 3) (slotsOf xs c) -∗ slotSt xs c l (j, s)))
      ⊢ bigSep Finset.univ (fun s : Fin 4 => slotSt xs c l (j, s)) :=
    (Entails.of_eq he.symm).trans (bigSep_mono fun s _ => hw s)
  have h3 : slotAll xs c l = bigSep Finset.univ fun j' : Fin 16 => bigSep Finset.univ fun s : Fin 4 => slotSt xs c l (j', s) :=
    bigSep_univ_prod _
  rw [h3]
  iintro H
  ihave H1 := (swap_at (fun j' : Fin 16 => bigSep Finset.univ fun s : Fin 4 => slotSt xs c l (j', s))
    (fun j' : Fin 16 => bigSep Finset.univ fun s : Fin 4 => slotSt xs c l (j', s)) j fun _ _ => rfl) $$ H
  icases H1 with ⟨Hj, Hback⟩
  ihave H2 := h1 $$ Hj
  icases H2 with ⟨Hp, Hw⟩
  isplitl [Hp]; · iexact Hp
  iintro Hp
  iapply Hback
  iapply h2
  isplitl [Hp]; · iexact Hp
  iexact Hw

/-- What a load of slot `j` reads. -/
theorem slot_value (c : Dev nD) (j : Fin 16) :
    (gM.view.readAt (Elt F) (slotRect j).toLoadRect (slotsOf xs c) : S1x64x1024.Idx → Elt F .bf16) = slab (xs (orig c j)) := by
  funext i
  show slotsOf xs c ((slotRect j).emb i) = _
  have h0 : ((slotRect j).emb i) 0 = j := Fin.ext (by
    have := (i 0).isLt; simp [S1x64x1024] at this; simpa [Rect.emb, Rect.unit] using this)
  have h1 : ((slotRect j).emb i) 1 = (i 1 : Fin 64) := Fin.ext (by simp [Rect.emb, Rect.unit])
  have h2 : ((slotRect j).emb i) 2 = (i 2 : Fin 1024) := Fin.ext (by simp [Rect.emb, Rect.unit])
  unfold slotsOf slab
  rw [h0, h1, h2]

/-! ## Writing a block of the result -/

theorem orig_inj (c : Dev nD) : Function.Injective (orig c) :=
  (Finite.injective_iff_surjective (α := Fin 16) (f := orig c)).mpr (orig_surj c)

/-- The element `y` of slot `j`'s block lies in the rows of the device the slot comes from. -/
theorem outRect_row (c : Dev nD) (j : Fin 16) (y : S64x64.Idx) : (((outRect c j).emb y) 0 : ℕ) = 64 * (orig c j).val + (y 0 : ℕ) := by
  have h : offOf c j 0 = 64 * (orig c j).val := congrFun (offOf_eq c j) 0
  show offOf c j 0 + 1 * (y 0 : ℕ) = _
  rw [h, Nat.one_mul]
theorem outRect_col (c : Dev nD) (j : Fin 16) (y : S64x64.Idx) : (((outRect c j).emb y) 1 : ℕ) = (y 1 : ℕ) := by
  have h : offOf c j 1 = 0 := congrFun (offOf_eq c j) 1
  show offOf c j 1 + 1 * (y 1 : ℕ) = _
  rw [h, Nat.one_mul, Nat.zero_add]

theorem out_disjoint {c : Dev nD} {j j' : Fin 16} (h : j ≠ j') (y y' : S64x64.Idx) : (outRect c j').emb y' ≠ (outRect c j).emb y := fun he => by
  have hr := congrArg (fun i : S1024x64.Idx => (i 0 : ℕ)) he
  dsimp only at hr
  rw [outRect_row, outRect_row] at hr
  have h1 : (y 0 : ℕ) < 64 := (y 0).isLt
  have h2 : (y' 0 : ℕ) < 64 := (y' 0).isLt
  exact h (orig_inj c (Fin.ext (by omega)))

/-- After the block of slot `j` is written one block more is computed. -/
theorem computed_write {c : Dev nD} {l : List Step} {j : Fin 16} {f : S1024x64.Idx → Elt F .f32} (hf : Computed xs ws c (.comp j :: l) f) :
    Computed xs ws c l ((oM.access (outRect c j)).write (Elt F) f (blk (xs (orig c j)) (ws c)) Finset.univ) := by
  intro j' hj' y
  by_cases h : j' = j
  · subst h
    exact View.write_emb_of_mem (Val := Elt F) (v := oM.access (outRect c j')) f _ (Finset.mem_univ y)
  · refine (View.write_of_not_mem (Val := Elt F) (v := oM.access (outRect c j)) f _ Finset.univ fun hm => ?_).trans
      (hf j' (by simp [h, hj']) y)
    obtain ⟨y', -, he⟩ := Finset.mem_map.mp hm
    exact out_disjoint (Ne.symm h) y' y he.symm

/-! ## The step -/

theorem step_comp (K : Dev nD × Cell → ℕ) (c : Dev nD) (j : Fin 16) (l : List Step) (h : okStep (.comp j) l) :
    Takes xs ws K c (.comp j) l := by
  obtain ⟨-, hr⟩ := h
  intro α k Q
  simp only [Step.prog, Prog.lift, Prog.bind_op, Prog.bind_ret, Prog.pure_eq_ret]
  have h1 : (sndAll c (.comp j :: l) : sProp 𝕄) = sndAll c l := sndAll_cons fun e s => ⟨by simp, by simp⟩
  have h2 : (rcvAll c (.comp j :: l) : sProp 𝕄) = rcvAll c l := rcvAll_cons fun p => by simp
  have h3 : slotAll xs c (.comp j :: l) = slotAll xs c l := by
    unfold slotAll slotSt
    exact bigSep_congr fun p _ => bigSep_congr fun k _ => lfSt_congr xs (by unfold Away; simp)
  unfold State outSt owesSt
  rw [h1, h2, h3]
  iintro ⟨-, -, ⟨HS, HV, HL, HW, ⟨%f, %hf, HO⟩, ⟨%W, Ho⟩⟩, Hk⟩
  ihave H1 := (slot_read xs c l j hr) $$ HL
  icases H1 with ⟨Hp, HLback⟩
  iapply (wp_load 𝒱₀ (c : Thread nD τ) none Set.univ (m := gM) (r := (slotRect j).toLoadRect) (S := (slotRect j).set) (by
    intro i hi; obtain ⟨x, hx, rfl⟩ := Finset.mem_map.mp hi; exact hx)) $$ Hp
  iintro Hp
  rw [slot_value]
  iapply (wp_load 𝒱₀ (c : Thread nD τ) none Set.univ (m := wM) (Finset.subset_univ _)) $$ HW; iintro HW
  iapply (wp_load 𝒱₀ (c : Thread nD τ) none Set.univ (m := oM) (Finset.subset_univ _)) $$ HO; iintro HO
  iapply (wp_store 𝒱₀ (c : Thread nD τ) none Set.univ (m := oM) (r := outRect c j) (Mk := Finset.univ) (Finset.subset_univ _)) $$ HO; iintro HO
  iapply Hk
  isplitl [HS]; · iexact HS
  isplitl [HV]; · iexact HV
  isplitl [HLback Hp]; · iapply HLback; iexact Hp
  isplitl [HW]; · iexact HW
  isplitl [HO]
  · iexists _; isplitr
    rotate_left
    · iexact HO
    · ipureintro
      have hw : wM.view.readAt (Elt F) wRect.toLoadRect (k0_pay2 (ws c)) = k0_pay2 (ws c) :=
        Memref.readAt_unit_zero (Elt F) cc0_scratch1 (by decide) _ _
      rw [hw]
      exact computed_write xs ws hf
  iexists W; iexact Ho

/-! ## All steps -/

theorem step_any (K : Dev nD × Cell → ℕ) (c : Dev nD) (o : Step) (l : List Step) (h : okStep o l) : Takes xs ws K c o l := by
  cases o with
  | send e s => exact step_send xs ws K c e s l h
  | recv j s => exact step_recv xs ws K c j s l h
  | comp j => exact step_comp xs ws K c j l h
  | done e s => exact step_done xs ws K c e s l h

/-- The steps of a list, each allowed when it comes, leave what nothing remaining asks for. -/
theorem run_steps (K : Dev nD × Cell → ℕ) (c : Dev nD) (l : List Step) (h : okSteps l) (Q : PUnit → sProp 𝕄) :
    iprop(records xs K ∗ levAts L lv ∗ State xs ws c l ∗ (State xs ws c [] -∗ Q ⟨⟩))
      ⊢ wp frame (wpE (defs₀ (F := F)) 𝒱₀ (c : Thread nD τ) none) Set.univ (runSteps c l) Q := by
  induction l with
  | nil =>
    show _ ⊢ wp frame (wpE (defs₀ (F := F)) 𝒱₀ (c : Thread nD τ) none) Set.univ (Prog.ret ⟨⟩) Q
    rw [wp_ret]
    iintro ⟨-, -, HS, Hk⟩
    imodintro
    iapply Hk
    iexact HS
  | cons o l ih =>
    iintro ⟨#HR, #HL, HS, Hk⟩
    iapply (step_any xs ws K c o l h.1 (fun _ => runSteps c l) Q)
    isplitr; · iexact HR
    isplitr; · iexact HL
    isplitl [HS]; · iexact HS
    iintro HS
    iapply (ih h.2)
    isplitr; · iexact HR
    isplitr; · iexact HL
    isplitl [HS]; · iexact HS
    iexact Hk

end Cert.GatherProof

end
-- ==== Proof.Entry.lean ====
/-
# The entry

The device stores its rows into slot 0 and its columns into their copy, hands each neighbour the slots that neighbour
writes, and takes from each neighbour the slots it will write itself. Then it holds what all the steps ask for.
-/
module

public import proofs.«01_k».proof.Proof.Compute

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S64x1024.Idx → Elt F .bf16) (ws : Dev nD → S1024x64.Idx → Elt F .bf16)

/-! ## Families by direction -/

theorem bigSep_dir (Φ : Dir → sProp 𝕄) : bigSep Finset.univ Φ = iprop(Φ .left ∗ Φ .right ∗ Φ .chord) :=
  (bigSep_univ_eq_bigSepL [.left, .right, .chord] (by decide) (by decide) Φ).trans (by rw [bigSepL_cons_cons, bigSepL_cons_cons, bigSepL_singleton]; rfl)

abbrev toward (d : Dir) : Finset (Fin 15 × Fin 4) := Finset.univ.filter fun p : Fin 15 × Fin 4 => dirOf p.1 = d

/-- A family over all transfers, direction by direction. -/
theorem by_dir (Φ : Fin 15 × Fin 4 → sProp 𝕄) : bigSep Finset.univ Φ = bigSep Finset.univ fun d : Dir => bigSep (toward d) Φ := by
  rw [bigSep_dir, bigSep_filter_split Finset.univ fun p : Fin 15 × Fin 4 => dirOf p.1 = .left,
    bigSep_filter_split (Finset.univ.filter fun p : Fin 15 × Fin 4 => ¬ dirOf p.1 = .left) fun p => dirOf p.1 = .right,
    show (Finset.univ.filter fun p : Fin 15 × Fin 4 => ¬ dirOf p.1 = .left).filter (fun p => dirOf p.1 = .right) = toward .right from by decide,
    show (Finset.univ.filter fun p : Fin 15 × Fin 4 => ¬ dirOf p.1 = .left).filter (fun p => ¬ dirOf p.1 = .right) = toward .chord from by decide]
  rfl

/-! ## The buffer of slots -/

abbrev gPts (c : Dev nD) (f : S16x64x1024.Idx → Elt F .bf16) : sProp 𝕄 := ((c : Thread nD τ).loc cc0_scratch0) ↦{fullShare} f

theorem gPts_eq (c : Dev nD) (f : S16x64x1024.Idx → Elt F .bf16) :
    gPts c f = bigSep Finset.univ fun p : Fin 16 × Fin 4 => segPts c p fullShare f := by
  have h := pointsTo_biUnion (Ix := Unit) (Val := Elt F) (Name := ℕ) (U := UU) (Lvl := ℕ) (ℓ := (c : Thread nD τ).loc cc0_scratch0) (q := fullShare)
    (f := f) Finset.univ (fun p : Fin 16 × Fin 4 => segSet p.1 p.2) fun p _ p' _ hne => segSet_disjoint hne
  unfold segPts
  rw [← h]
  exact congrArg (fun S : Finset S16x64x1024.Idx => ((((c : Thread nD τ).loc cc0_scratch0) ↦[S]{fullShare} f : sProp 𝕄))) segSet_cover.symm

/-- A family over the segments: those of slot 0 and those the transfers write. -/
theorem by_slot (Φ : Fin 16 × Fin 4 → sProp 𝕄) :
    bigSep Finset.univ Φ = iprop((bigSep Finset.univ fun s : Fin 4 => Φ (0, s)) ∗ bigSep Finset.univ fun p : Fin 15 × Fin 4 => Φ (dstOf p.1, p.2)) := by
  rw [bigSep_univ_prod, slots_eq, bigSep_insert (by simp [dst_ne]), bigSep_map, bigSep_univ_prod]
  rfl

/-- The buffer after the store of the device's own rows. -/
abbrev stored (c : Dev nD) (f : S16x64x1024.Idx → Elt F .bf16) : S16x64x1024.Idx → Elt F .bf16 :=
  (gM.access (slotRect 0)).write (Elt F) f (k0_pay1 (xs c)) Finset.univ

theorem pay1_eq (v : S64x1024.Idx → Elt F .bf16) : k0_pay1 (F := F) v = slab v := by
  funext i
  obtain ⟨u, a, b, rfl⟩ : ∃ (u : Fin 1) (a : Fin 64) (b : Fin 1024), i = ix3 u a b := ⟨i 0, i 1, i 2, eq_ix3 i⟩
  unfold k0_pay1
  rw [shapeCast_self]
  exact shapeCast_ab_1ab_apply v _ u a b

theorem stored_eq (c : Dev nD) (f : S16x64x1024.Idx → Elt F .bf16) (s : Fin 4) : ∀ i ∈ segSet 0 s, stored xs c f i = slotsOf xs c i := by
  intro i hi
  have hm : i ∈ (slotRect 0).set := by rw [← slot_cover 0]; exact Finset.mem_biUnion.mpr ⟨s, Finset.mem_univ _, hi⟩
  rw [← Rect.map_emb_univ] at hm
  obtain ⟨y, -, rfl⟩ := Finset.mem_map.mp hm
  refine (View.write_emb_of_mem (Val := Elt F) (v := gM.access (slotRect 0)) f _ (Finset.mem_univ y)).trans ?_
  have h := congrFun (slot_value xs c 0) y
  rw [orig_zero] at h
  exact (congrFun (pay1_eq (xs c)) y).trans h.symm

/-! ## What the steps find -/

theorem send_mem (e : Fin 15) (s : Fin 4) : Step.send e s ∈ allSteps := by revert e s; decide +kernel
theorem recv_mem (j : Fin 16) (s : Fin 4) : Step.recv j s ∈ allSteps ↔ j ≠ 0 := by revert j s; decide +kernel
theorem comp_mem (j : Fin 16) : Step.comp j ∈ allSteps := by revert j; decide +kernel

/-- A device's positions at its transfers' semaphores, and the tokens its transfers pay with. -/
def sndTok (c : Dev nD) : sProp 𝕄 :=
  iprop((bigSep Finset.univ fun p : Fin 15 × Fin 4 => atPos ER (sendCell c p) 0 ∅ 0) ∗ (bigSep Finset.univ fun p : Fin 15 × Fin 4 => dutyTok ER (sendCell c p) 0 .left)
    ∗ bigSep Finset.univ fun p : Fin 15 × Fin 4 => dutyTok ER (target c p.1 p.2) 0 .left)

theorem sndAll_start (c : Dev nD) : (sndAll c allSteps : sProp 𝕄)
    = iprop((bigSep Finset.univ fun p : Fin 15 × Fin 4 => atPos ER (sendCell c p) 0 ∅ 0) ∗ (bigSep Finset.univ fun p : Fin 15 × Fin 4 => dutyTok ER (sendCell c p) 0 .left)
      ∗ (bigSep Finset.univ fun p : Fin 15 × Fin 4 => dutyTok ER (target c p.1 p.2) 0 .left)
      ∗ bigSep Finset.univ fun p : Fin 15 × Fin 4 => iprop(∃ f, segPts (nbr c (dirOf p.1)) (dstOf p.1, p.2) fullShare f)) := by
  unfold sndAll
  rw [bigSep_congr fun p _ => sndSt_before (send_mem p.1 p.2), bigSep_sep', bigSep_sep', bigSep_sep']

/-- Slot 0 is all that has arrived at the start. -/
theorem slotAll_start (c : Dev nD) : (bigSep Finset.univ fun s : Fin 4 => segPts c (0, s) fullShare (slotsOf xs c)) ⊢ slotAll xs c allSteps := by
  unfold slotAll
  rw [by_slot, bigSep_congr (s := (Finset.univ : Finset (Fin 4))) fun s _ => slotSt_here xs (p := (0, s)) fun k => by
      rintro (h | ⟨e, -, -, h, -⟩)
      · exact (recv_mem 0 s).mp h rfl
      · exact h (send_mem e s),
    bigSep_congr (s := (Finset.univ : Finset (Fin 15 × Fin 4))) fun p _ => slotSt_away xs (p := (dstOf p.1, p.2)) ((recv_mem _ _).mpr (dst_ne p.1)),
    show (bigSep (Finset.univ : Finset (Fin 15 × Fin 4)) fun _ => iprop(emp)) = (iprop(emp) : sProp 𝕄) from bigSep_emp_const _]
  iintro H
  isplitl [H]; · iexact H
  iempintro

/-! ## The handshake -/

/-- The slots the transfers write, handed to the neighbours that write them. -/
theorem give (c : Dev nD) (f : S16x64x1024.Idx → Elt F .bf16) :
    (bigSep Finset.univ fun p : Fin 15 × Fin 4 => segPts c (dstOf p.1, p.2) fullShare f)
      ⊢ iprop(barPay (nbr c .right) .left ∗ barPay (nbr c .left) .right ∗ barPay (nbr c .chord) .chord) := by
  have h (d : Dir) : (bigSep (toward d) fun p : Fin 15 × Fin 4 => (segPts c (dstOf p.1, p.2) fullShare f : sProp 𝕄)) ⊢ barPay (nbr c d.opp) d := by
    unfold barPay
    rw [nbr_opp']
    have hp (p : Fin 15 × Fin 4) : (segPts c (dstOf p.1, p.2) fullShare f : sProp 𝕄) ⊢ iprop(∃ f, segPts c (dstOf p.1, p.2) fullShare f) := by
      iintro H; iexists f; iexact H
    exact bigSep_mono fun p _ => hp p
  rw [by_dir, bigSep_dir]
  exact BI.sep_mono (h .left) (BI.sep_mono (h .right) (h .chord))

theorem payload_bar (c : Dev nD) (d : Dir) : (rd xs).payload (barCell c) 0 d = barPay c d := payload_at xs c none d

/-- What the neighbours hand over is what the device's transfers write. -/
theorem take (c : Dev nD) : bigSep Finset.univ (barPay (F := F) c)
    = bigSep Finset.univ fun p : Fin 15 × Fin 4 => iprop(∃ f, segPts (nbr c (dirOf p.1)) (dstOf p.1, p.2) fullShare f) := by
  rw [by_dir]
  refine bigSep_congr fun d _ => ?_
  unfold barPay
  exact bigSep_congr fun p hp => by rw [(Finset.mem_filter.mp hp).2]

abbrev aPts (c : Dev nD) (f : S64x1024.Idx → Elt F .bf16) : sProp 𝕄 := ((c : Thread nD τ).loc cc0_stg0_0) ↦{fullShare} f
abbrev bPts (c : Dev nD) (f : S1024x64.Idx → Elt F .bf16) : sProp 𝕄 := ((c : Thread nD τ).loc cc0_stg1_0) ↦{fullShare} f

/-- What a device has in hand at the start besides its buffers. -/
def Hand (c : Dev nD) : sProp 𝕄 :=
  iprop(sndTok c ∗ rcvAll c allSteps ∗ atPos ER (barCell c) 0 ∅ 0
    ∗ (dutyTok ER (barCell (nbr c .left)) 0 .right ∗ dutyTok ER (barCell (nbr c .right)) 0 .left ∗ dutyTok ER (barCell (nbr c .chord)) 0 .chord)
    ∗ cred (tallyAt (barCell c) () 3))

theorem entry (K : Dev nD × Cell → ℕ) (c : Dev nD) (W : Waits sig Unit) {α : Type} (k : PUnit → Prog (TpuEff nD τ sig (Elt F) Λ₀ .tc) α) (Q : α → sProp 𝕄) :
    iprop(records xs K ∗ levAts L lv ∗ Hand c ∗ owes (c : Thread nD τ) (O₀ c) W ∗ aPts c (xs c) ∗ bPts c (ws c)
        ∗ (∃ f, gPts c f) ∗ (∃ f, wPts c f) ∗ (∃ f, oPts c f)
        ∗ ((State xs ws c allSteps ∗ atPos ER (barCell c) 1 ∅ 0 ∗ aPts c (xs c) ∗ bPts c (ws c))
            -∗ wp frame (wpE (defs₀ (F := F)) 𝒱₀ (c : Thread nD τ) none) Set.univ (k ⟨⟩) Q))
      ⊢ wp frame (wpE (defs₀ (F := F)) 𝒱₀ (c : Thread nD τ) none) Set.univ (entryProg c >>= k) Q := by
  simp only [entryProg, semSignalWord, semWaitWord, Prog.lift, Prog.bind_op, Prog.bind_ret, Prog.pure_eq_ret]
  have hz : (![0, 0] : Fin 2 → Nat) = fun _ => 0 := funext fun a => by fin_cases a <;> rfl
  have ha : aM.view.readAt (Elt F) aRect.toLoadRect (xs c) = xs c := Memref.readAt_unit_zero (Elt F) cc0_stg0_0 hz _ _
  have hb : bM.view.readAt (Elt F) wRect.toLoadRect (ws c) = ws c := Memref.readAt_unit_zero (Elt F) cc0_stg1_0 hz _ _
  have hw (f) : (wM.access wRect).write (Elt F) f (k0_pay2 (ws c)) Finset.univ = k0_pay2 (ws c) := Memref.write_access_unit_zero_univ (Elt F) cc0_scratch1 hz _ _ _
  have hsplit (f : S16x64x1024.Idx → Elt F .bf16) : gPts c (stored xs c f) ⊢ iprop(slotAll xs c allSteps
      ∗ barPay (nbr c .right) .left ∗ barPay (nbr c .left) .right ∗ barPay (nbr c .chord) .chord) := by
    rw [gPts_eq, by_slot]
    exact BI.sep_mono ((Entails.of_eq (bigSep_congr fun s _ => by unfold segPts; exact pointsTo_congr (stored_eq xs c f s))).trans (slotAll_start xs c)) (give c _)
  have hmw : (levAts L lv : sProp 𝕄) ⊢ MayWait (c : Thread nD τ) (csem none) () (owed c allSteps) :=
    mayWait_owed c _ allSteps fun e s _ => by rw [lv_at]; exact Nat.lt_of_lt_of_le (Nat.lt_succ_self 1) (Nat.le_add_right _ _)
  unfold Hand sndTok
  iintro ⟨#HR, #HL, ⟨⟨HS1, HS2, HS3⟩, HV, HatB, ⟨HtL, HtR, HtC⟩, HcB⟩, Ho, Ha, Hb, ⟨%fg, Hg⟩, ⟨%fw, Hw⟩, ⟨%fo, Hout⟩, Hk⟩
  iapply (wp_load 𝒱₀ (c : Thread nD τ) none Set.univ (m := aM) (Finset.subset_univ _)) $$ Ha; iintro Ha
  rw [ha]
  iapply (wp_load 𝒱₀ (c : Thread nD τ) none Set.univ (m := gM) (Finset.subset_univ _)) $$ Hg; iintro Hg
  iapply (wp_store 𝒱₀ (c : Thread nD τ) none Set.univ (m := gM) (r := slotRect 0) (Mk := Finset.univ) (Finset.subset_univ _)) $$ Hg; iintro Hg
  iapply (wp_load 𝒱₀ (c : Thread nD τ) none Set.univ (m := bM) (Finset.subset_univ _)) $$ Hb; iintro Hb
  rw [hb]
  iapply (wp_load 𝒱₀ (c : Thread nD τ) none Set.univ (m := wM) (Finset.subset_univ _)) $$ Hw; iintro Hw
  iapply (wp_store 𝒱₀ (c : Thread nD τ) none Set.univ (m := wM) (r := wRect) (Mk := Finset.univ) (Finset.subset_univ _)) $$ Hw; iintro Hw
  rw [hw]
  ihave Hg' := (hsplit fg) $$ Hg
  icases Hg' with ⟨HSl, HpR, HpL, HpC⟩
  unfold O₀
  iapply (Rounds.wp_signal 𝒱₀ ER (rd xs) (c : Thread nD τ) none (dst := (nbr c .left : Thread nD τ)) (κ := K (nbr c .left, none))
      (d := .right) (by rw [duties_at xs _ none]; exact Finset.mem_univ _) ((amount_at xs (nbr c .left) none .right).trans (by decide)) () _ rfl)
    $$ [Ho HtL HpL]
  · isplitr; · iapply (inv_at xs K (nbr c .left) none); iexact HR
    isplitl [Ho]; · iexact Ho
    isplitl [HtL]; · iexact HtL
    isplitl [HpL]; · rw [payload_bar]; iexact HpL
    iapply (reached_at xs K (nbr c .left) none); iexact HR
  iintro Ho
  iapply (Rounds.wp_signal 𝒱₀ ER (rd xs) (c : Thread nD τ) none (dst := (nbr c .right : Thread nD τ)) (κ := K (nbr c .right, none))
      (d := .left) (by rw [duties_at xs _ none]; exact Finset.mem_univ _) ((amount_at xs (nbr c .right) none .left).trans (by decide)) () _ rfl)
    $$ [Ho HtR HpR]
  · isplitr; · iapply (inv_at xs K (nbr c .right) none); iexact HR
    isplitl [Ho]; · iexact Ho
    isplitl [HtR]; · iexact HtR
    isplitl [HpR]; · rw [payload_bar]; iexact HpR
    iapply (reached_at xs K (nbr c .right) none); iexact HR
  iintro Ho
  iapply (Rounds.wp_signal 𝒱₀ ER (rd xs) (c : Thread nD τ) none (dst := (nbr c .chord : Thread nD τ)) (κ := K (nbr c .chord, none))
      (d := .chord) (by rw [duties_at xs _ none]; exact Finset.mem_univ _) ((amount_at xs (nbr c .chord) none .chord).trans (by decide)) () _ rfl)
    $$ [Ho HtC HpC]
  · isplitr; · iapply (inv_at xs K (nbr c .chord) none); iexact HR
    isplitl [Ho]; · iexact Ho
    isplitl [HtC]; · iexact HtC
    isplitl [HpC]; · rw [payload_bar]; iexact HpC
    iapply (reached_at xs K (nbr c .chord) none); iexact HR
  iintro Ho
  iapply (Rounds.wp_wait_rest_token 𝒱₀ ER (rd xs) (c : Thread nD τ) none (κ := K (c, none))
      (wpE_semWait_eq 𝒱₀ (c : Thread nD τ) none Set.univ) (Set.mem_univ _) () (O := owed c allSteps) (W := W) (R := 0) (m := 0) (T := ∅)
      (by rw [expect_at xs c none]; decide)) $$ [HcB Ho HatB]
  · isplitr; · iapply (inv_at xs K c none); iexact HR
    isplitl [HcB]; · iexact HcB
    isplitl [Ho]; · iexact Ho
    isplitr; · iapply hmw; iexact HL
    iexact HatB
  iintro ⟨Ho, HatB, -, Hpay⟩
  ihave Hp := (Entails.of_eq ((rest_at xs c none).trans (take c))) $$ Hpay
  iapply Hk
  unfold State outSt owesSt
  rw [sndAll_start]
  isplitl [HS1 HS2 HS3 Hp HV HSl Hw Hout Ho]
  · isplitl [HS1 HS2 HS3 Hp]
    · isplitl [HS1]; · iexact HS1
      isplitl [HS2]; · iexact HS2
      isplitl [HS3]; · iexact HS3
      iexact Hp
    isplitl [HV]; · iexact HV
    isplitl [HSl]; · iexact HSl
    isplitl [Hw]; · iexact Hw
    isplitl [Hout]
    · iexists fo; isplitr
      · ipureintro; exact fun j hj => absurd (comp_mem j) hj
      · iexact Hout
    iexists (insert (SemLoc.reg barS, ()) W); iexact Ho
  isplitl [HatB]; · iexact HatB
  isplitl [Ha] <;> iassumption

end Cert.GatherProof

end
-- ==== Proof.Finish.lean ====
/-
# The whole body

When no step remains every semaphore of the device can be given back at zero, every slot is whole and the result is
computed everywhere. So the body takes what a device holds at the start to its result.
-/
module

public import proofs.«01_k».proof.Proof.Entry
public import proofs.«01_k».proof.Proof.Compute

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S64x1024.Idx → Elt F .bf16) (ws : Dev nD → S1024x64.Idx → Elt F .bf16)

/-! ## The result -/

/-- Device `c`'s result: rows `64 d .. 64 d + 63` are the block computed from device `d`'s rows and `c`'s columns. -/
def outArr (c : Dev nD) : S1024x64.Idx → Elt F .f32 := fun i =>
  blk (xs ⟨(i 0 : ℕ) / 64, Nat.div_lt_of_lt_mul (i 0).isLt⟩) (ws c) (ix2 (⟨(i 0 : ℕ) % 64, Nat.mod_lt _ (by decide)⟩ : Fin 64) (i 1 : Fin 64))

/-- When no block remains to be computed, the result buffer holds the result. -/
theorem computed_all {c : Dev nD} {f : S1024x64.Idx → Elt F .f32} (h : Computed xs ws c [] f) : f = outArr xs ws c := by
  funext i
  obtain ⟨j, hj⟩ := orig_surj c ⟨(i 0 : ℕ) / 64, Nat.div_lt_of_lt_mul (i 0).isLt⟩
  have he : (outRect c j).emb (ix2 (⟨(i 0 : ℕ) % 64, Nat.mod_lt _ (by decide)⟩ : Fin 64) (i 1 : Fin 64)) = i := by
    funext a
    apply Fin.ext
    fin_cases a
    · refine (outRect_row c j _).trans ?_
      rw [hj]
      exact Nat.div_add_mod (i 0 : ℕ) 64
    · exact outRect_col c j _
  have := h j (List.not_mem_nil) (ix2 (⟨(i 0 : ℕ) % 64, Nat.mod_lt _ (by decide)⟩ : Fin 64) (i 1 : Fin 64))
  rw [he, hj] at this
  exact this

/-! ## The semaphores given back -/

/-- A persistent fact may be used at every member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (BI.Entails.refl _)).trans ((Entails.of_eq (bigSep_sep' S (fun _ => R) Φ).symm).trans (bigSep_mono h))

/-- A cell in whose remaining rounds nobody pays is given back at zero. -/
theorem close_at (K : Dev nD × Cell → ℕ) (c : Dev nD) (k : Cell) (R : ℕ) (h : ∀ r, R ≤ r → (rd xs).duties (cellAt c k) r = ∅) :
    iprop(records xs K ∗ atPos ER (cellAt c k) R ∅ 0) ⊢ |={Set.univ}=> semVal (cellAt c k) 0 := by
  iintro ⟨#HR, Hat⟩
  imod (Rounds.cell_close ER (rd xs) (Set.mem_univ (K (c, k))) (fun h => h) (R := R) h) $$ [Hat] with Hz
  · isplitr
    · iapply (inv_at xs K c k); iexact HR
    · iexact Hat
  imodintro
  iexact Hz

theorem sndAll_nil (c : Dev nD) : (sndAll c [] : sProp 𝕄) = bigSep Finset.univ fun p => atPos ER (sendCell c p) 1 ∅ 0 := by
  unfold sndAll
  refine bigSep_congr fun p _ => ?_
  unfold sndSt
  rw [if_neg List.not_mem_nil, if_neg List.not_mem_nil]
theorem rcvAll_nil (c : Dev nD) : (rcvAll c [] : sProp 𝕄) = bigSep Finset.univ fun p => atPos ER (recvCell c p) (if p.1 = 0 then 0 else 1) ∅ 0 := by
  unfold rcvAll
  refine bigSep_congr fun p _ => ?_
  unfold rcvSt
  rw [if_neg List.not_mem_nil]
theorem slotAll_nil (c : Dev nD) : slotAll xs c [] = gPts c (slotsOf xs c) := by
  rw [gPts_eq]
  unfold slotAll
  exact bigSep_congr fun p _ => slotSt_here xs fun k h => by
    rcases h with h | ⟨e, -, -, -, h⟩ <;> exact List.not_mem_nil h

theorem close_snd (K : Dev nD × Cell → ℕ) (c : Dev nD) :
    iprop(records xs K ∗ sndAll c []) ⊢ |={Set.univ}=> bigSep Finset.univ fun p => semVal (sendCell c p) 0 := by
  rw [sndAll_nil]
  exact (bigSep_using fun p _ => close_at xs K c (some (.inr p)) 1 (duties_later xs _)).trans (bigSep_fupd _ _)
theorem close_rcv (K : Dev nD × Cell → ℕ) (c : Dev nD) :
    iprop(records xs K ∗ rcvAll c []) ⊢ |={Set.univ}=> bigSep Finset.univ fun p => semVal (recvCell c p) 0 := by
  rw [rcvAll_nil]
  refine (bigSep_using fun p _ => close_at xs K c (some (.inl p)) _ ?_).trans (bigSep_fupd _ _)
  obtain ⟨j, s⟩ := p
  by_cases hj : j = 0
  · subst hj; rw [if_pos rfl]; exact duties_unused xs c s
  · rw [if_neg hj]; exact duties_later xs _

/-! ## The body -/

/-- What a device ends with: its result, its slots, every semaphore at zero and nothing owed. -/
def Done (c : Dev nD) : sProp 𝕄 :=
  iprop(aPts c (xs c) ∗ bPts c (ws c) ∗ oPts c (outArr xs ws c) ∗ (∃ f, gPts c f) ∗ (∃ f, wPts c f)
    ∗ semVal (barCell c) 0 ∗ (bigSep Finset.univ fun p => semVal (recvCell c p) 0) ∗ (bigSep Finset.univ fun p => semVal (sendCell c p) 0)
    ∗ ∃ W, owes (c : Thread nD τ) 0 W)

theorem finish (K : Dev nD × Cell → ℕ) (c : Dev nD) :
    iprop(records xs K ∗ State xs ws c [] ∗ atPos ER (barCell c) 1 ∅ 0 ∗ aPts c (xs c) ∗ bPts c (ws c)) ⊢ |={Set.univ}=> Done xs ws c := by
  unfold State outSt owesSt
  rw [slotAll_nil]
  iintro ⟨#HR, ⟨HS, HV, Hg, Hw, ⟨%f, %hf, Ho⟩, Howe⟩, HB, Ha, Hb⟩
  have hfe := computed_all xs ws hf
  subst hfe
  imod (close_snd xs K c) $$ [HS] with HS
  · isplitr; · iexact HR
    iexact HS
  imod (close_rcv xs K c) $$ [HV] with HV
  · isplitr; · iexact HR
    iexact HV
  imod (close_at xs K c none 1 (duties_later xs _)) $$ [HB] with HB
  · isplitr; · iexact HR
    iexact HB
  imodintro
  unfold Done
  isplitl [Ha]; · iexact Ha
  isplitl [Hb]; · iexact Hb
  isplitl [Ho]; · iexact Ho
  isplitl [Hg]; · iexists (slotsOf xs c); iexact Hg
  isplitl [Hw]; · iexists (k0_pay2 (ws c)); iexact Hw
  isplitl [HB]; · iexact HB
  isplitl [HV]; · iexact HV
  isplitl [HS]; · iexact HS
  iexact Howe

/-- The body takes a device from its start to its result. -/
theorem body_run (K : Dev nD × Cell → ℕ) (c : Dev nD) (W : Waits sig Unit) (Q : PUnit → sProp 𝕄) :
    iprop(records xs K ∗ levAts L lv ∗ Hand c ∗ owes (c : Thread nD τ) (O₀ c) W ∗ aPts c (xs c) ∗ bPts c (ws c)
        ∗ (∃ f, gPts c f) ∗ (∃ f, wPts c f) ∗ (∃ f, oPts c f) ∗ (Done xs ws c -∗ Q ⟨⟩))
      ⊢ wp frame (wpE (defs₀ (F := F)) 𝒱₀ (c : Thread nD τ) none) Set.univ (bodyAt0 (F := F) t0_0) Q := by
  rw [body_eq]
  unfold kernelProg
  simp only [Prog.lift, Prog.bind_op, Prog.bind_ret, Prog.pure_eq_ret, wp_deviceId]
  iintro ⟨#HR, #HL, HH, Ho, Ha, Hb, Hg, Hw, Hout, Hk⟩
  iapply (entry xs ws K c W (fun _ => runSteps c allSteps) Q)
  isplitr; · iexact HR
  isplitr; · iexact HL
  isplitl [HH]; · iexact HH
  isplitl [Ho]; · iexact Ho
  isplitl [Ha]; · iexact Ha
  isplitl [Hb]; · iexact Hb
  isplitl [Hg]; · iexact Hg
  isplitl [Hw]; · iexact Hw
  isplitl [Hout]; · iexact Hout
  iintro ⟨HS, HB, Ha, Hb⟩
  iapply (wp_fupd frame (wpE (defs₀ (F := F)) 𝒱₀ (c : Thread nD τ) none) Set.univ (runSteps c allSteps) Q)
  iapply (run_steps xs ws K c allSteps okSteps_all fun a => iprop(|={Set.univ}=> Q a))
  isplitr; · iexact HR
  isplitr; · iexact HL
  isplitl [HS]; · iexact HS
  iintro HS
  imod (finish xs ws K c) $$ [HS HB Ha Hb] with HD
  · isplitr; · iexact HR
    isplitl [HS]; · iexact HS
    isplitl [HB]; · iexact HB
    isplitl [Ha] <;> iassumption
  imodintro
  iapply Hk
  iexact HD

end Cert.GatherProof

end
-- ==== Proof.Credit.lean ====
/-
# What the launch deals out

The launch credits every semaphore with what all devices owe it together: three units at each barrier, one segment at
each arrival. The tokens of the duties are made where they are due and then go to the device that pays.
-/
module

public import proofs.«01_k».proof.Proof.Finish
public import proofs.«01_k».proof.Proof.Gen.KernelIdeal.Launch

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed to a cell -/

theorem cell_iff {c c' : Dev nD} {k k' : Cell} : cellAt c k = cellAt c' k' ↔ c = c' ∧ k = k' :=
  ⟨fun h => by have := cellAt_inj (a₁ := (c, k)) (a₂ := (c', k')) h; exact ⟨congrArg Prod.fst this, congrArg Prod.snd this⟩,
    fun h => by rw [h.1, h.2]⟩

theorem at_nbr {c d : Dev nD} {e : Dir} : c = nbr d e ↔ d = nbr c e.opp :=
  ⟨fun h => by rw [h, nbr_opp], fun h => by rw [h, nbr_opp']⟩

theorem owed_cons (d : Dev nD) (o : Step) (l : List Step) (g : GSem nD τ sig) :
    owed d (o :: l) g () = owed d l g () + (match o with | .send e s => if g = target d e s then N else 0 | _ => 0) := by
  cases o with
  | send e s =>
    show (owed d l + tallyAt (target d e s) () N) g () = _
    rw [Pi.add_apply, Finsupp.add_apply, tallyAt_apply]
    by_cases h : g = target d e s
    · rw [if_pos ⟨h, rfl⟩]; dsimp only; rw [if_pos h]
    · rw [if_neg fun h' => h h'.1]; dsimp only; rw [if_neg h]
  | recv j s => rfl
  | comp j => rfl
  | done e s => rfl

theorem into_iff {d c : Dev nD} {e : Fin 15} {s : Fin 4} : recvCell c (dstOf e, s) = target d e s ↔ d = nbr c (dirOf e).opp :=
  ⟨fun h => at_nbr.mp (cell_iff.mp h).1, fun h => cell_iff.mpr ⟨at_nbr.mpr h, rfl⟩⟩

/-- To an arrival a device owes one segment for each transfer into it, if the arrival is the neighbour's on that side. -/
theorem owed_recv (d c : Dev nD) (e : Fin 15) (s : Fin 4) (l : List Step) :
    owed d l (recvCell c (dstOf e, s)) () = if d = nbr c (dirOf e).opp then l.count (.send e s) * N else 0 := by
  induction l with
  | nil => rw [List.count_nil, Nat.zero_mul, ite_self]; rfl
  | cons o l ih =>
    rw [owed_cons, ih]
    by_cases ho : o = .send e s
    · subst ho
      rw [List.count_cons_self, Nat.add_mul, Nat.one_mul]
      dsimp only
      by_cases h : d = nbr c (dirOf e).opp
      · rw [if_pos h, if_pos h, if_pos (into_iff.mpr h)]
      · rw [if_neg h, if_neg h, if_neg (mt into_iff.mp h)]
    · rw [List.count_cons_of_ne (fun h => ho h)]
      refine (Nat.add_eq_left).mpr ?_
      cases o with
      | send e' s' =>
        refine if_neg fun h' => ho ?_
        have h2 := (cell_iff.mp h').2
        injection h2 with h2; injection h2 with h2
        have h3 : dstOf e = dstOf e' := congrArg Prod.fst h2
        have h4 : s = s' := congrArg Prod.snd h2
        rw [dst_inj h3, h4]
      | recv j s => rfl
      | comp j => rfl
      | done e s => rfl

/-- Each transfer is started once. -/
theorem send_once (e : Fin 15) (s : Fin 4) : allSteps.count (.send e s) = 1 := by revert e s; decide +kernel

theorem owed_bar (d c : Dev nD) (l : List Step) : owed d l (barCell c) () = 0 := by
  by_contra h
  obtain ⟨e, s, -, hg⟩ := owed_pos (Nat.pos_of_ne_zero h)
  exact Option.some_ne_none _ (cell_iff.mp hg).2.symm

theorem tally_bar (d c : Dev nD) (e : Dir) : tallyAt (barCell (nbr d e)) () 1 (barCell c) () = if d = nbr c e.opp then 1 else 0 := by
  rw [tallyAt_apply]
  by_cases h : d = nbr c e.opp
  · rw [if_pos h, if_pos ⟨cell_iff.mpr ⟨at_nbr.mpr h, rfl⟩, rfl⟩]
  · rw [if_neg h, if_neg fun h' => h (at_nbr.mp (cell_iff.mp h'.1).1)]
theorem tally_recv (d c : Dev nD) (e : Dir) (p : Fin 16 × Fin 4) : tallyAt (barCell (nbr d e)) () 1 (recvCell c p) () = 0 := by
  have h : recvCell c p ≠ barCell (nbr d e) := fun h => Option.some_ne_none _ (cell_iff.mp h).2
  rw [tallyAt_apply, if_neg fun h' => h h'.1]

theorem owing (d : Dev nD) (g : GSem nD τ sig) : O₀ d g () = owed d allSteps g () + tallyAt (barCell (nbr d .chord)) () 1 g ()
    + tallyAt (barCell (nbr d .right)) () 1 g () + tallyAt (barCell (nbr d .left)) () 1 g () := rfl
/-- What device `d` owes a barrier: a unit for each side on which the barrier's device is its neighbour. -/
theorem owing_bar (d c : Dev nD) : O₀ d (barCell c) () = (if d = nbr c .chord then 1 else 0) + (if d = nbr c .left then 1 else 0)
    + (if d = nbr c .right then 1 else 0) := by
  rw [owing, owed_bar, Nat.zero_add]
  exact congrArg₂ _ (congrArg₂ _ (tally_bar d c .chord) (tally_bar d c .right)) (tally_bar d c .left)
theorem owing_recv (d c : Dev nD) (e : Fin 15) (s : Fin 4) :
    O₀ d (recvCell c (dstOf e, s)) () = if d = nbr c (dirOf e).opp then N else 0 := by
  rw [owing, tally_recv, tally_recv, tally_recv, owed_recv, send_once, Nat.one_mul]; rfl

theorem one_of (x : Dev nD) (n : ℕ) : (∑ d : Dev nD, if d = x then n else 0) = n := by
  rw [Finset.sum_ite_eq' Finset.univ x fun _ => n, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  change (∑ d : Dev nD, O₀ d (barCell c) ()) = 3
  rw [Finset.sum_congr rfl fun d _ => owing_bar d c, Finset.sum_add_distrib, Finset.sum_add_distrib, one_of, one_of, one_of]
theorem launch_recv (c : Dev nD) (e : Fin 15) (s : Fin 4) :
    tallyOn (recvCell c (dstOf e, s)) (launchCredit (Pipeline.owing O₀) 0 (recvCell c (dstOf e, s)))
      = (tallyAt (recvCell c (dstOf e, s)) () N : CellTallies nD τ sig Unit) := by
  unfold tallyAt; refine congrArg _ (Finsupp.ext fun u => ?_); cases u
  rw [Pipeline.launchCredit_owing, Finsupp.single_eq_same]
  change (∑ d : Dev nD, O₀ d (recvCell c (dstOf e, s)) ()) = N
  rw [Finset.sum_congr rfl fun d _ => owing_recv d c e s, one_of]

theorem from_slot {j : Fin 16} (h : j ≠ 0) : ∃ e, j = dstOf e := by revert j; decide

/-- The credit of an arrival, of which slot 0 has none. -/
def rcvCred (c : Dev nD) (p : Fin 16 × Fin 4) : sProp 𝕄 := if p.1 = 0 then iprop(emp) else cred (tallyAt (recvCell c p) () N)

theorem creds (c : Dev nD) :
    (Pipeline.launchCred O₀ c : sProp 𝕄) ⊢ iprop(cred (tallyAt (barCell c) () 3) ∗ bigSep Finset.univ (rcvCred c)) := by
  unfold Pipeline.launchCred
  let e : (Fin 16 × Fin 4) ↪ SemLoc sig := ⟨fun p => csem (some (.inl p)), fun p p' h => by
    have := csem_inj h; injection this with this; injection this⟩
  have hsub : Finset.univ.map e ⊆ Finset.univ.erase (SemLoc.reg barS) := fun x hx => by
    obtain ⟨p, -, rfl⟩ := Finset.mem_map.mp hx
    exact Finset.mem_erase.mpr ⟨(fun h => nomatch h), Finset.mem_univ _⟩
  rw [bigSep_univ_at _ (SemLoc.reg barS), show (((c : Thread nD τ), SemLoc.reg barS) : GSem nD τ sig) = barCell c from rfl, launch_bar]
  refine BI.sep_mono (BI.Entails.refl _) ((bigSep_subset hsub).trans ?_)
  rw [bigSep_map]
  have hp (p : Fin 16 × Fin 4) : (cred (tallyOn (recvCell c p) (launchCredit (Pipeline.owing O₀) 0 (recvCell c p))) : sProp 𝕄) ⊢ rcvCred c p := by
    obtain ⟨j, s⟩ := p
    unfold rcvCred
    by_cases hj : j = 0
    · rw [if_pos hj]; iintro -; iempintro
    · rw [if_neg hj]
      obtain ⟨e, rfl⟩ := from_slot hj
      rw [launch_recv]
  exact bigSep_mono fun p _ => hp p

/-- With its credit and its position every arrival is as the first step finds it. -/
theorem rcvAll_start (c : Dev nD) :
    iprop((bigSep Finset.univ fun p => atPos ER (recvCell c p) 0 ∅ 0) ∗ bigSep Finset.univ (rcvCred c)) ⊢ (rcvAll c allSteps : sProp 𝕄) := by
  unfold rcvAll
  rw [← bigSep_sep']
  have hp (p : Fin 16 × Fin 4) : iprop(atPos ER (recvCell c p) 0 ∅ 0 ∗ rcvCred c p) ⊢ (rcvSt c allSteps p : sProp 𝕄) := by
    unfold rcvSt rcvCred
    by_cases hj : p.1 = 0
    · rw [if_pos hj, if_pos hj, if_neg fun h => (recv_mem p.1 p.2).mp h hj]
      iintro ⟨H, -⟩
      iexact H
    · rw [if_neg hj, if_pos ((recv_mem p.1 p.2).mpr hj)]
  exact bigSep_mono fun p _ => hp p

/-! ## The tokens -/

/-- Going from each device in the direction its second component names. -/
def around {P : Type} (f : P → Dir) : Dev nD × P ≃ Dev nD × P where
  toFun x := (nbr x.1 (f x.2), x.2)
  invFun x := (nbr x.1 (f x.2).opp, x.2)
  left_inv x := Prod.ext (nbr_opp x.1 (f x.2)) rfl
  right_inv x := Prod.ext (nbr_opp' x.1 (f x.2)) rfl

/-- A device's own cells' duties: the barrier's three, each transfer's, each arrival's. -/
abbrev Duty : Type := Dir ⊕ (Fin 15 × Fin 4) ⊕ (Fin 15 × Fin 4)
def dutyOf : Dev nD × Duty → GSem nD τ sig × ℕ × Dir
  | (c, .inl d) => (barCell c, 0, d)
  | (c, .inr (.inl p)) => (sendCell c p, 0, .left)
  | (c, .inr (.inr p)) => (recvCell c (dstOf p.1, p.2), 0, .left)

theorem dutyOf_inj : Function.Injective dutyOf := by
  rintro ⟨c, d | p | p⟩ ⟨c', d' | p' | p'⟩ h
  all_goals
    have h1 := cell_iff.mp (congrArg Prod.fst h)
    have h2 := congrArg (fun x => x.2.2) h
    obtain ⟨rfl, h1⟩ := h1
  · dsimp only [dutyOf] at h2; rw [h2]
  · cases h1
  · cases h1
  · cases h1
  · injection h1 with h1; injection h1 with h1; rw [h1]
  · injection h1 with h1; cases h1
  · cases h1
  · injection h1 with h1; cases h1
  · injection h1 with h1; injection h1 with h1
    have h3 : p.1 = p'.1 := dst_inj (congrArg Prod.fst h1)
    have h4 : p.2 = p'.2 := congrArg (fun x : Fin 16 × Fin 4 => x.2) h1
    rw [Prod.ext h3 h4]

def cells : Finset (GSem nD τ sig) := Finset.univ.map ⟨_, cellAt_inj⟩
def dutyToks : Finset (GSem nD τ sig × ℕ × Dir) := Finset.univ.map ⟨dutyOf, dutyOf_inj⟩

/-- The tokens of a device's own cells, -/
def toks (c : Dev nD) : sProp 𝕄 :=
  iprop((bigSep Finset.univ fun d : Dir => dutyTok ER (barCell c) 0 d)
    ∗ (bigSep Finset.univ fun p : Fin 15 × Fin 4 => dutyTok ER (sendCell c p) 0 .left)
    ∗ (bigSep Finset.univ fun p : Fin 15 × Fin 4 => dutyTok ER (recvCell c (dstOf p.1, p.2)) 0 .left))
/-- and those of the duties it pays. -/
def payToks (c : Dev nD) : sProp 𝕄 :=
  iprop((bigSep Finset.univ fun d : Dir => dutyTok ER (barCell (nbr c d.opp)) 0 d)
    ∗ (bigSep Finset.univ fun p : Fin 15 × Fin 4 => dutyTok ER (sendCell c p) 0 .left)
    ∗ (bigSep Finset.univ fun p : Fin 15 × Fin 4 => dutyTok ER (target c p.1 p.2) 0 .left))

theorem toks_minted : bigSep dutyToks (fun x => (dutyTok ER x.1 x.2.1 x.2.2 : sProp 𝕄)) = bigSep Finset.univ fun c : Dev nD => toks c := by
  unfold dutyToks
  rw [bigSep_map, bigSep_univ_prod]
  refine bigSep_congr fun c _ => ?_
  rw [bigSep_univ_sum, bigSep_univ_sum]
  rfl

theorem go_around {P : Type} [Fintype P] (f : P → Dir) (Φ : Dev nD → P → sProp 𝕄) :
    (bigSep Finset.univ fun c => bigSep Finset.univ fun p => Φ c p) = bigSep Finset.univ fun c => bigSep Finset.univ fun p => Φ (nbr c (f p)) p := by
  rw [← bigSep_univ_prod (fun x : Dev nD × P => Φ x.1 x.2), bigSep_univ_equiv (around f), bigSep_univ_prod]
  rfl

/-- Each token goes to the device that pays with it. -/
theorem toks_around : (bigSep Finset.univ fun c : Dev nD => (toks c : sProp 𝕄)) = bigSep Finset.univ fun c : Dev nD => payToks c := by
  unfold toks payToks
  rw [bigSep_sep', bigSep_sep', bigSep_sep', bigSep_sep', go_around (fun d : Dir => d.opp),
    go_around (fun p : Fin 15 × Fin 4 => dirOf p.1) fun c p => (dutyTok ER (recvCell c (dstOf p.1, p.2)) 0 .left : sProp 𝕄)]
  rfl

end Cert.GatherProof

end
-- ==== Proof.Run.lean ====
/-
# The run

The kernel's launch on the mesh of sixteen: every fair execution ends, every device's result array then holds the
device's block as the kernel computes it, its arguments are as they were and every semaphore is at zero.
-/
module

public import proofs.«01_k».proof.Proof.Credit
public import proofs.«01_k».proof.Proof.Gen.KernelIdeal.Frame
public import Idealize.ShloMosaic.Lib.Pipeline.CollectiveSegs

@[expose] public section

noncomputable section

namespace Cert.GatherProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the launch -/

abbrev start₀ : MemSt nD τ sig (Elt F) := ⟨m, fun _ => 0, ρ⟩

/-- Each device's rows and columns as staged. -/
def xIn (c : Dev nD) : S64x1024.Idx → Elt F .bf16 := (win0_0.blk (0 : Fin 1)).view.read (Elt F) (m ((c : Thread nD τ).loc main_arg0))
def wIn (c : Dev nD) : S1024x64.Idx → Elt F .bf16 := (win0_1.blk (0 : Fin 1)).view.read (Elt F) (m ((c : Thread nD τ).loc main_arg1))

/-- What a device has when the kernel starts. -/
def begun (c : Dev nD) : sProp 𝕄 := iprop((∃ K, records (xIn m) K) ∗ levAts L lv ∗ Hand c)
def Φ₀ (c : Dev nD) : sProp 𝕄 := iprop(begun m c ∗ (∃ f, gPts c f) ∗ (∃ f, wPts c f))
/-- And when it has ended. -/
def Φ₁ (c : Dev nD) : sProp 𝕄 := iprop((∃ f, gPts c f) ∗ (∃ f, wPts c f)
    ∗ semVal (barCell c) 0 ∗ (bigSep Finset.univ fun p => semVal (recvCell c p) 0) ∗ (bigSep Finset.univ fun p => semVal (sendCell c p) 0))

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outArr (xIn m) (wIn m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ c ∗ (dats m 0 c).owesAt () t0_0.succ ∗ stg c cc0_stg0_0 (xIn m c) ∗ stg c cc0_stg1_0 (wIn m c)
    ∗ stg c cc0_stg2_0 (outArr (xIn m) (wIn m) c))

theorem body_sound (c : Dev nD) :
    bodyPre m c ⊢ wp frame (wpE (defs₀ (F := F)) 𝒱₀ (c : Thread nD τ) none) Set.univ (bodyAt0 (F := F) t0_0) (fun _ => bodyPost m c) := by
  unfold bodyPre Φ₀ begun
  iintro ⟨⟨⟨⟨%K, #HR⟩, #HL, HH⟩, Hg, Hw⟩, Ho, ⟨%d0, %g0, %hg0, Hx⟩, ⟨%d1, %g1, %hg1, Hy⟩, ⟨%d2, %g2, %hg2, Hout⟩⟩
  have hx : g0 = xIn m c := by rw [hg0]; unfold Dat.before; rw [if_pos (fetch0_0 t0_0)]; rfl
  have hy : g1 = wIn m c := by rw [hg1]; unfold Dat.before; rw [if_pos (fetch0_1 t0_0)]; rfl
  subst hx hy
  unfold Dat.owesAt Pipeline.owesWithin
  icases Ho with ⟨%W, %hW, HO⟩
  iapply (body_run (xIn m) (wIn m) K c W fun _ => bodyPost m c)
  isplitr; · iexact HR
  isplitr; · iexact HL
  isplitl [HH]; · iexact HH
  isplitl [HO]; · iexact HO
  isplitl [Hx]; · iexact Hx
  isplitl [Hy]; · iexact Hy
  isplitl [Hg]; · iexact Hg
  isplitl [Hw]; · iexact Hw
  isplitl [Hout]; · iexists g2; iexact Hout
  unfold Done bodyPost Φ₁ Dat.owesAt Pipeline.owesWithin
  iintro ⟨Hx, Hy, Hout, Hg, Hw, HB, HV, HS, ⟨%W', HO⟩⟩
  isplitl [Hg Hw HB HV HS]
  · isplitl [Hg]; · iexact Hg
    isplitl [Hw]; · iexact Hw
    isplitl [HB]; · iexact HB
    isplitl [HV] <;> iassumption
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

set_option maxRecDepth 100000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 (F := F) t0_0) (fun _ => bodyPost m c)
  exact body_sound m c

/-! ## The cells and tokens at the launch -/

theorem ownSemFacts : Pipeline.OwnSemFacts cfg0.spec osem where
  isScoped := by decide
  inj := osem_inj
  disj k w s h := by
    have hs : ((cfg0.spec w).sem s).val < 3 := by clear h; revert w s; decide
    rcases k with p | p
    · injection h with h; rw [← h, recvS_val] at hs; omega
    · injection h with h; rw [← h, sendS_val] at hs; omega

def u₀ : UU :=
  (initOf (Pipeline.cells cfgs cellOf_inj) (Pipeline.launchToks cfgs cellOf_inj), initOf cells dutyToks)

def G (c : Dev nD) : sProp 𝕄 :=
  iprop((bigSep Finset.univ fun k : Cell => roundState ER (rd (xIn m)) (cellAt c k) 0)
    ∗ ((bigSep Finset.univ fun k : Cell => atPos ER (cellAt c k) 0 ∅ 0) ∗ bigSep Finset.univ fun k : Cell => reached ER (cellAt c k) 0) ∗ toks c)

/-- What a device starts with besides its arrivals' credit. -/
def G' (c : Dev nD) : sProp 𝕄 :=
  iprop((∃ K, records (xIn m) K) ∗ (bigSep Finset.univ fun k : Cell => atPos ER (cellAt c k) 0 ∅ 0) ∗ payToks c)

theorem fund_all : BI.own (ER (initOf cells dutyToks)) ⊢ (|==> bigSep Finset.univ (G m) : sProp 𝕄) := by
  have hX (Φ : GSem nD τ sig → sProp 𝕄) : bigSep cells Φ = bigSep Finset.univ fun c : Dev nD => bigSep Finset.univ fun k : Cell => Φ (cellAt c k) := by
    unfold cells; rw [bigSep_map, bigSep_univ_prod]; rfl
  iintro HX
  imod (Rounds.fund ER (rd (xIn m)) cells dutyToks) $$ HX with ⟨Hst, Hr, Hat, Htok⟩
  imodintro
  ihave Hst' := (Entails.of_eq (hX fun g => roundState ER (rd (xIn m)) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_minted (F := F))) $$ Htok
  unfold G; simp only [bigSep_sep']
  isplitl [Hst']; · iexact Hst'
  isplitl [Hat' Hr']
  · isplitl [Hat'] <;> iassumption
  iexact Htok'

theorem bigSep_option {I : Type} [Fintype I] [DecidableEq I] (Φ : Option I → sProp 𝕄) :
    bigSep Finset.univ Φ = iprop(Φ none ∗ bigSep Finset.univ fun i => Φ (some i)) := by
  rw [bigSep_univ_equiv (Equiv.optionEquivSumPUnit.{0} I).symm Φ, bigSep_univ_sum, bigSep_univ_of_subsingleton PUnit.unit]
  exact BI.Entails.antisymm BI.sep_comm BI.sep_comm

/-- A family over a device's cells: the barrier's, the arrivals', the transfers'. -/
theorem bigSep_cells (Φ : Cell → sProp 𝕄) : bigSep Finset.univ Φ
    = iprop(Φ none ∗ (bigSep Finset.univ fun p => Φ (some (.inl p))) ∗ bigSep Finset.univ fun p => Φ (some (.inr p))) := by
  rw [bigSep_option, bigSep_univ_sum]; rfl

theorem ownSems0_eq (c : Dev nD) : (Pipeline.ownSems0 (Ix := Unit) (Name := ℕ) (U := UU) (Lvl := ℕ) (Val := Elt F) (τ := τ) osem c : sProp 𝕄)
    = iprop((bigSep Finset.univ fun p => semVal (recvCell c p) 0) ∗ bigSep Finset.univ fun p => semVal (sendCell c p) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (rd (xIn m)) κ (cellAt c k)))
          ∗ ((bigSep Finset.univ fun k : Cell => atPos ER (cellAt c k) 0 ∅ 0) ∗ bigSep Finset.univ fun k : Cell => reached ER (cellAt c k) 0) ∗ toks c) := by
  have halloc : iprop((bigSep Finset.univ fun k : Cell => semVal (cellAt c k) 0) ∗ bigSep Finset.univ fun k : Cell => roundState ER (rd (xIn m)) (cellAt c k) 0)
      ⊢ (|={Set.univ}=> bigSep Finset.univ fun k : Cell => iprop(∃ κ : ℕ, cellInv ER (rd (xIn m)) κ (cellAt c k)) : sProp 𝕄) := by
    rw [← bigSep_sep']
    exact (bigSep_mono fun k _ => (Rounds.body_intro ER (rd (xIn m)) (cellAt c k)).trans inv_alloc).trans (bigSep_fupd _ _)
  rw [bigSep_cells fun k => (semVal (cellAt c k) 0 : sProp 𝕄)] at halloc
  rw [ownSems0_eq, unscopedSems0_eq]
  unfold G
  iintro ⟨⟨HV, HS⟩, HB, Hst, Hat, Htok⟩
  imod halloc $$ [HV HS HB Hst] with Hinv
  · isplitl [HV HS HB]
    · isplitl [HB]; · iexact HB
      isplitl [HV] <;> iassumption
    iexact Hst
  imodintro
  isplitl [Hinv]; · iexact Hinv
  isplitl [Hat]; · iexact Hat
  iexact Htok

theorem regroup :
    (bigSep Finset.univ fun c : Dev nD => iprop((bigSep Finset.univ fun k : Cell => iprop(∃ κ : ℕ, cellInv ER (rd (xIn m)) κ (cellAt c k)))
          ∗ ((bigSep Finset.univ fun k : Cell => atPos ER (cellAt c k) 0 ∅ 0) ∗ bigSep Finset.univ fun k : Cell => reached ER (cellAt c k) 0) ∗ toks c) : sProp 𝕄)
      ⊢ bigSep Finset.univ (G' m) := by
  have hone (K) (c : Dev nD) : iprop(records (xIn m) K ∗ (bigSep Finset.univ fun k : Cell => atPos ER (cellAt c k) 0 ∅ 0) ∗ payToks c) ⊢ G' m c := by
    unfold G'
    iintro ⟨#HR, H⟩
    isplitr; · iexists K; iexact HR
    iexact H
  rw [bigSep_sep', bigSep_sep', bigSep_sep', toks_around, ← bigSep_univ_prod (fun ck : Dev nD × Cell => iprop(∃ κ : ℕ, cellInv ER (rd (xIn m)) κ (cellAt ck.1 ck.2))),
    ← bigSep_univ_prod (fun ck : Dev nD × Cell => (reached ER (cellAt ck.1 ck.2) 0 : sProp 𝕄))]
  iintro ⟨HI, ⟨Hat, #HR⟩, Htok⟩
  ihave HK := (BI.bigSep_exists_pi Finset.univ (fun (ck : Dev nD × Cell) (κ : ℕ) => (cellInv ER (rd (xIn m)) κ (cellAt ck.1 ck.2) : sProp 𝕄))) $$ HI
  icases HK with ⟨%K, #HI⟩
  iapply (bigSep_using (R := records (xIn m) K) fun c _ => hone K c)
  isplitr
  · unfold records; isplitl; · iexact HI
    iexact HR
  · rw [bigSep_sep']
    isplitl [Hat]; · iexact Hat
    iexact Htok

/-- All devices' semaphores at once become the cells of the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the kernel and out of it -/

theorem hand_intro (c : Dev nD) :
    iprop((bigSep Finset.univ fun k : Cell => atPos ER (cellAt c k) 0 ∅ 0) ∗ payToks c ∗ Pipeline.launchCred O₀ c) ⊢ (Hand c : sProp 𝕄) := by
  unfold payToks Hand sndTok
  rw [bigSep_cells, bigSep_dir]
  iintro ⟨⟨HB, HV, HS⟩, ⟨⟨HL, HR, HC⟩, HtS, HtV⟩, Hcr⟩
  ihave Hc := (creds (F := F) c) $$ Hcr
  icases Hc with ⟨HcB, HcV⟩
  isplitl [HS HtS HtV]
  · isplitl [HS]; · iexact HS
    isplitl [HtS]; · iexact HtS
    iexact HtV
  isplitl [HV HcV]
  · iapply (rcvAll_start (F := F) c)
    isplitl [HV]; · iexact HV
    iexact HcV
  isplitl [HB]; · iexact HB
  isplitl [HL HR HC]
  · isplitl [HR]; · iexact HR
    isplitl [HL]; · iexact HL
    iexact HC
  iexact HcB

theorem begun_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begun m c ∗ emp) := by
  unfold begun G'
  iintro ⟨-, HL, Hcr, -, HR, Hat, Htok⟩
  imodintro
  isplitl
  · isplitl [HR]; · iexact HR
    isplitl [HL]; · iexact HL
    iapply (hand_intro (F := F) c)
    isplitl [Hat]; · iexact Hat
    isplitl [Htok]; · iexact Htok
    iexact Hcr
  · iempintro

theorem phi0_intro (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hg, Hw⟩
  isplitl [Hs]; · iexact Hs
  isplitl [Hg] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨Hg, Hw, HB, HV, HS⟩
  isplitl [HB]; · iexact HB
  isplitl [HV HS]
  · isplitl [HV] <;> iassumption
  isplitl [Hg] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-! ## The run -/

/-- Device `c`'s array of window `w` after the run. -/
def final (c : Dev nD) (w : Fin cfg0.W) : Buf (Elt F) ((cfg0.win w).arr.view.loc (c : Thread nD τ)) := (dats m 0 c).arrAt w cfg0.N

def Post : PUnit × MemSt nD τ sig (Elt F) → Prop := fun r =>
  ∀ c : Dev nD, ∀ w : Fin cfg0.W, r.2.mem ((cfg0.win w).arr.view.loc (c : Thread nD τ)) = final m c w

set_option maxRecDepth 100000 in
/-- From any memory and zero counters every fair execution ends with every window's array at its final contents and every
    semaphore at zero. -/
theorem run_main : θ_run defs (onTc (τ := τ) (main (F := F))) (start₀ m ρ) (fun r => Post m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begun m) (Y := fun c => unscopedSems0 c) (Z := fun _ => iprop(emp))
    (hX := begun_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatherProof

end
-- ==== Proof.Frames.lean ====
/-
# The frame

The run ends, leaves the arguments as they were and every semaphore at zero: over any float operations, so both for the
kernel's machine floats and over the reals.
-/
module

public import proofs.«01_k».proof.Defs
public import proofs.«01_k».proof.Proof.Gen.Kernel
public import proofs.«01_k».proof.Proof.Run

@[expose] public section

noncomputable section

namespace Cert.GatherProof

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (ρ : Dev nD → PrngReg)

/-- The arguments' arrays after the run are those before it. -/
theorem final_x (c : Dev nD) : final m c (0 : Fin 3) = m ((c : Thread nD τ).loc main_arg0) := (dats m 0 c).arrAt_in (0 : Fin 3) rfl _
theorem final_w (c : Dev nD) : final m c (1 : Fin 3) = m ((c : Thread nD τ).loc main_arg1) := (dats m 0 c).arrAt_in (1 : Fin 3) rfl _

/-- The run ends with the arguments unchanged and every semaphore at zero. -/
theorem quiescent : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (final_x m c), (h.1 c 1).trans (final_w m c)⟩, h.2⟩) (run_main m ρ)

/-- The two printed programs are the same text: what one says of its run over machine floats the other says. -/
theorem same_run (m : (ℓ : Loc Cert.Kernel.nD Cert.Kernel.τ Cert.Kernel.sig) → Buf (Elt Bits) ℓ) (ρ : Dev Cert.Kernel.nD → PrngReg)
    (P : PUnit × MemSt nD τ sig (Elt Bits) → Prop) :
    θ_run (Cert.Kernel.defs (F := Bits)) (onTc (τ := Cert.Kernel.τ) (Cert.Kernel.main (F := Bits))) ⟨m, fun _ => 0, ρ⟩ P
      = θ_run (defs (F := Bits)) (onTc (τ := τ) (main (F := Bits))) ⟨m, fun _ => 0, ρ⟩ P := by chain_rfl

/-- The printed kernel over machine floats, -/
theorem frame_kernel : Cert.quiescent_Kernel := fun m ρ _ => by
  refine (same_run m ρ _).mpr ?_
  exact quiescent (F := Bits) m ρ
/-- and over the reals. -/
theorem frame_ideal : Cert.quiescent_KernelIdeal := fun m ρ _ => quiescent m ρ

end Cert.GatherProof

end
-- ==== Proof.Silu.lean ====
/-
# The function of one entry

Over the extended reals the product `y * logistic y` and the quotient `y / (1 + exp (-y))` are the same function, at the
infinities too.
-/
module

public import Idealize.ShloMosaic.PureOps.Ideal.Laws

@[expose] public section

noncomputable section

namespace Cert.GatherProof

open Idealize.ShloMosaic

/-- The sum of products of a row and a column. -/
def inner {n : ℕ} (u v : Fin n → EReal) : EReal := ∑ t : Fin n, u t * v t

/-- The quotient `y / (1 + exp (-y))`. -/
def silu (y : EReal) : EReal := Ideal.div y (1 + Ideal.exp (-y))

theorem exp_nonneg (y : EReal) : 0 ≤ Ideal.exp y := by
  induction y with
  | bot => exact le_refl _
  | top => exact le_top
  | coe r =>
    rw [Ideal.exp_coe]
    exact_mod_cast (Real.exp_pos r).le

theorem den_ne (y : EReal) : 1 + Ideal.exp (-y) ≠ 0 :=
  (lt_of_lt_of_le zero_lt_one (le_add_of_nonneg_right (exp_nonneg (-y)))).ne'

/-- The product with the logistic is the quotient. -/
theorem mul_logistic (y : EReal) : y * Ideal.logistic y = silu y := by
  unfold Ideal.logistic silu Ideal.div
  rw [if_neg (den_ne y), if_neg (den_ne y), one_mul]

end Cert.GatherProof

end
-- ==== Proof.Block.lean ====
/-
# The block computed from rows and columns

Over the reals entry `(a, b)` of a block is the function of the product of row `a` with column `b`.
-/
module

public import proofs.«01_k».proof.Proof.State
public import proofs.«01_k».proof.Proof.Silu
public import Idealize.ShloMosaic.Lib.Pointwise.Contract

@[expose] public section

noncomputable section

namespace Cert.GatherProof

open Cert.KernelIdeal Cert.KernelIdeal.Gen
open Idealize.ShloMosaic Idealize.ShloMosaic.TcCoe

/-- The rows put in a slot and taken out of it are the rows. -/
theorem slab_rows (v : S64x1024.Idx → EReal) (i : S64x1024.Idx) :
    shapeCast S64x1024 (slab (F := Ideal) v) shapeCasts_S1x64x1024_S64x1024 i = v i := by
  refine (shapeCast_dropUnit_apply ![64, 1024] (slab (F := Ideal) v) shapeCasts_S1x64x1024_S64x1024 i).trans ?_
  refine congrArg v ?_
  funext a; fin_cases a <;> rfl

/-- The kernel's product at an entry. -/
theorem blk_dot (x : FVec Ideal S64x1024 .bf16) (w : FVec Ideal S1024x64 .bf16) (i : S64x64.Idx) :
    matmul dot_S64x1024_S1024x64_S64x64_1_0_0_1_n_n none x w (constant S64x64 .f32 0x00000000#32) i
      = inner (fun t : Fin 1024 => x (ValueIdx.ix2 (i 0 : Fin 64) t)) fun t => w (ValueIdx.ix2 t (i 1 : Fin 64)) := by
  refine (Ideal.matmul_constant_zero_apply _ _ x w i).trans ?_
  refine (DotDims.sum_contr₁ _ (a := 1) rfl (K := 1024) rfl _).trans ?_
  refine Finset.sum_congr rfl fun t _ => congrArg₂ (· * ·) (congrArg x ?_) (congrArg w ?_)
  · funext a; fin_cases a <;> rfl
  · funext a; fin_cases a <;> rfl

theorem blk_apply (v : FVec Ideal S64x1024 .bf16) (w : FVec Ideal S1024x64 .bf16) (i : S64x64.Idx) :
    blk (F := Ideal) v w i = silu (inner (fun t : Fin 1024 => v (ValueIdx.ix2 (i 0 : Fin 64) t)) fun t => w (ValueIdx.ix2 t (i 1 : Fin 64))) := by
  have h := blk_dot (shapeCast S64x1024 (slab (F := Ideal) v) shapeCasts_S1x64x1024_S64x1024) (k0_pay2 (F := Ideal) w) i
  have hx : shapeCast S64x1024 (slab (F := Ideal) v) shapeCasts_S1x64x1024_S64x1024 = v := funext (slab_rows v)
  have hw : k0_pay2 (F := Ideal) w = w := by
    show shapeCast S1024x64 (shapeCast S1024x64 w _) _ = w
    rw [shapeCast_self, shapeCast_self]
  rw [hx, hw] at h
  unfold blk k0_pay3
  rw [hx, hw]
  generalize matmul (F := Ideal) dot_S64x1024_S1024x64_S64x64_1_0_0_1_n_n none v w (constant S64x64 .f32 0x00000000#32) = y at h ⊢
  show y i * Ideal.logistic (y i) = _
  rw [h]
  exact mul_logistic _

end Cert.GatherProof

end
-- ==== Proof.Reference.lean ====
/-
# What the reference computes

Entry `(r, k)` of the reference's result is the function of the product of row `r` of the first argument with column `k` of
the second. The reference declares no semaphore, so its counters end at zero.
-/
module

public import proofs.«01_k».proof.Defs
public import proofs.«01_k».proof.Proof.Gen.ReferenceIdeal.Run
public import proofs.«01_k».proof.Proof.Silu
public import Idealize.ShloMosaic.Lib.Quiescent
public import Idealize.ShloMosaic.Lib.IdealHost
public import Idealize.ShloMosaic.Lib.Pointwise.Contract

@[expose] public section

noncomputable section

namespace Cert.GatherProof

open Cert.ReferenceIdeal Cert.ReferenceIdeal.Gen
open Idealize.ShloMosaic Idealize.ShloMosaic.TcCoe
open Idealize.SL.Sem

/-- The reference's result as a function of its arguments. -/
def refOut (x w : S1024x1024.Idx → EReal) : S1024x1024.Idx → EReal := fun i =>
  silu (inner (fun t : Fin 1024 => x (ValueIdx.ix2 (i 0 : Fin 1024) t)) fun t => w (ValueIdx.ix2 t (i 1 : Fin 1024)))

/-- The reference's product at an entry. -/
theorem ref_dot (x w : FVec Ideal S1024x1024 .f32) (i : S1024x1024.Idx) :
    Host.dotGeneral dot_S1024x1024_S1024x1024_S1024x1024_1_0_0_1_n_n none x w i
      = inner (fun t : Fin 1024 => x (ValueIdx.ix2 (i 0 : Fin 1024) t)) fun t => w (ValueIdx.ix2 t (i 1 : Fin 1024)) := by
  refine (Ideal.dotGeneral_apply _ _ _ x w i).trans ?_
  refine (DotDims.sum_contr₁ _ (a := 1) rfl (K := 1024) rfl _).trans ?_
  refine Finset.sum_congr rfl fun t _ => congrArg₂ (· * ·) (congrArg x ?_) (congrArg w ?_)
  · funext a; fin_cases a <;> rfl
  · funext a; fin_cases a <;> rfl

/-- The operations of the reference compute it. -/
theorem ref_eq (x w : FVec Ideal S1024x1024 .bf16) :
    Host.divf (Host.dotGeneral dot_S1024x1024_S1024x1024_S1024x1024_1_0_0_1_n_n none (extf .f32 x bitsLt_bf16_f32) (extf .f32 w bitsLt_bf16_f32))
      (addf (broadcastInDim S1024x1024 ![] bcast_S_S1024x1024 (constant S_ .f32 0x3F800000#32))
        (Host.exp (Host.negf (Host.dotGeneral dot_S1024x1024_S1024x1024_S1024x1024_1_0_0_1_n_n none (extf .f32 x bitsLt_bf16_f32) (extf .f32 w bitsLt_bf16_f32)))))
      = refOut x w := by
  funext i
  have h := ref_dot (extf .f32 x bitsLt_bf16_f32) (extf .f32 w bitsLt_bf16_f32) i
  generalize Host.dotGeneral dot_S1024x1024_S1024x1024_S1024x1024_1_0_0_1_n_n none (extf .f32 x bitsLt_bf16_f32) (extf .f32 w bitsLt_bf16_f32) = y at h ⊢
  show Ideal.div (y i) (Ideal.ofBits .f32 0x3F800000#32 + Ideal.exp (-y i)) = _
  rw [Ideal.ofBits_one_f32, h]
  rfl

/-- The reference's run: its result, its arguments and its counters. -/
theorem ref_run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v7) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (ref_eq _ _), (h c).2⟩) (Cert.ReferenceIdeal.Value.run m ρ)

theorem frame_ref : Cert.quiescent_ReferenceIdeal := fun m ρ _ =>
  (θ_run defs _ _).mono (fun r h => ⟨fun c => (h c).2, sem_eq_zero_of_no_sems (by decide) r.2⟩) (ref_run m ρ)

end Cert.GatherProof

end
-- ==== Proof.Value.lean ====
/-
# What the result array holds

Device `c`'s result array ends as the array of blocks computed from every device's rows and the device's own columns. When
those are the blocks of two arrays it is the block of columns of what the reference computes from the two arrays.
-/
module

public import proofs.«01_k».proof.Proof.Frames
public import proofs.«01_k».proof.Proof.Block
public import proofs.«01_k».proof.Proof.Reference

@[expose] public section

noncomputable section

namespace Cert.GatherProof

open Cert.KernelIdeal Cert.KernelIdeal.Gen
open Idealize.ShloMosaic Idealize.ShloMosaic.TcCoe
open Idealize.SL.Sem

section Array
variable {F : FTy → Type} [FloatOps F]

variable (m : (ℓ : Loc nD τ sig) → Buf (Elt F) ℓ) (ρ : Dev nD → PrngReg)

/-- The one block of each window is the whole array. -/
theorem read_x (f : S64x1024.Idx → Elt F .bf16) : (win0_0.blk (0 : Fin 1)).view.read (Elt F) f = f :=
  Memref.read_access_unit_zero (Elt F) main_arg0 (by decide) _ f
theorem read_w (f : S1024x64.Idx → Elt F .bf16) : (win0_1.blk (0 : Fin 1)).view.read (Elt F) f = f :=
  Memref.read_access_unit_zero (Elt F) main_arg1 (by decide) _ f
theorem read_o (f : S1024x64.Idx → Elt F .f32) : (win0_2.blk t0_0).view.read (Elt F) f = f :=
  Memref.read_access_unit_zero (Elt F) main_v1 (by decide) _ f

theorem xIn_eq (c : Dev nD) : xIn m c = m ((c : Thread nD τ).loc main_arg0) := read_x _
theorem wIn_eq (c : Dev nD) : wIn m c = m ((c : Thread nD τ).loc main_arg1) := read_w _

/-- The result array ends as the one block written back. -/
theorem final_o (c : Dev nD) : final m c (2 : Fin 3) = outArr (xIn m) (wIn m) c := by
  refine (read_o (final m c (2 : Fin 3))).symm.trans ?_
  unfold final
  rw [show cfg0.N = t0_0.val + 1 from rfl, (dats m 0 c).arrAt_succ (2 : Fin 3) t0_0, flush0_2, if_pos rfl]
  exact View.read_write_univ _ _

theorem run_value : θ_run defs (onTc (τ := τ) (main (F := F))) ⟨m, fun _ => 0, ρ⟩ (fun r => ∀ c : Dev nD,
    r.2.mem ((c.tc : Thread nD τ).loc main_v1) = outArr (xIn m) (wIn m) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c 2).trans (final_o m c), (h.1 c 0).trans (final_x m c), (h.1 c 1).trans (final_w m c)⟩)
    (run_main m ρ)

end Array

/-! ## The equation -/

/-- From the blocks of two arrays every device computes its block of columns of the reference's result. -/
theorem out_eq (x w : Cert.ReferenceIdeal.S1024x1024.Idx → EReal) (c : Dev nD) :
    outArr (F := Ideal) (fun d => Layout.block ⟨2, ![64, 1024]⟩ ⟨2, ![1024, 1024]⟩ 0 16 d x)
        (fun d => Layout.block ⟨2, ![1024, 64]⟩ ⟨2, ![1024, 1024]⟩ 1 16 d w) c
      = Layout.block ⟨2, ![1024, 64]⟩ ⟨2, ![1024, 1024]⟩ 1 16 c (refOut x w) := by
  funext i
  refine (blk_apply _ _ _).trans ?_
  refine congrArg silu (Finset.sum_congr rfl fun t _ => congrArg₂ (· * ·) (congrArg x ?_) (congrArg w ?_))
  · funext a
    apply Fin.ext
    fin_cases a
    · show (i 0 : ℕ) / 64 * 64 + (i 0 : ℕ) % 64 = (i 0 : ℕ)
      omega
    · rfl
  · funext a
    apply Fin.ext
    fin_cases a <;> rfl

/-- Every device's result array ends holding its block of columns of the reference's result. -/
theorem algebraic : Cert.algebraic_KernelIdeal_ReferenceIdeal := by
  intro m ρ m' ρ' _ hagree
  refine ⟨refOut (m' ((0 : Dev 1).tc.loc Cert.ReferenceIdeal.main_arg0)) (m' ((0 : Dev 1).tc.loc Cert.ReferenceIdeal.main_arg1)), ?_, ?_⟩
  · refine (θ_run defs _ _).mono (fun r h c => ⟨(h c).1.trans ?_, (h c).2⟩) (run_value (F := Ideal) m ρ)
    rw [show xIn m = _ from funext fun d => (xIn_eq m d).trans (hagree d).1, show wIn m = _ from funext fun d => (wIn_eq m d).trans (hagree d).2]
    exact out_eq _ _ c
  · exact (θ_run Cert.ReferenceIdeal.defs _ _).mono (fun r h => h 0) (ref_run m' ρ')

end Cert.GatherProof

end
-- ==== Proof.Short.lean ====
/-
# Products of short rows and columns

A row of length at most 40 and a column of length at most 3/2 have real entries and a product of size at most 60, by the
inequality of Cauchy and Schwarz. There clipping at 60 changes nothing.
-/
module

public import proofs.«01_k».proof.Proof.Silu

@[expose] public section

noncomputable section

namespace Cert.GatherProof

open Idealize.ShloMosaic

theorem square_nonneg (y : EReal) : 0 ≤ y * y := by
  rcases le_total 0 y with h | h
  · exact mul_nonneg h h
  · rw [← neg_mul_neg y y]
    exact mul_nonneg (EReal.neg_nonneg.mpr h) (EReal.neg_nonneg.mpr h)

/-- A row whose square is at most a real has real entries. -/
theorem real_of_square {n : ℕ} {u : Fin n → EReal} {b : ℝ} (h : inner u u ≤ b) : ∃ a : Fin n → ℝ, u = fun t => (a t : EReal) := by
  have hne (t : Fin n) : u t * u t ≠ ⊤ := fun ht => by
    have := (Finset.single_le_sum (f := fun t => u t * u t) (fun s _ => square_nonneg (u s)) (Finset.mem_univ t)).trans h
    simp only [ht] at this
    exact EReal.coe_ne_top b (top_le_iff.mp this)
  refine ⟨fun t => (u t).toReal, funext fun t => (EReal.coe_toReal ?_ ?_).symm⟩
  · intro ht
    exact hne t (by rw [ht]; rfl)
  · intro ht
    exact hne t (by rw [ht]; rfl)

/-- The product of real rows is real. -/
theorem inner_coe {n : ℕ} (a b : Fin n → ℝ) : inner (fun t => (a t : EReal)) (fun t => (b t : EReal)) = ((∑ t, a t * b t : ℝ) : EReal) := by
  let f : ℝ →+ EReal := ⟨⟨Real.toEReal, EReal.coe_zero⟩, EReal.coe_add⟩
  exact (Finset.sum_congr rfl fun t _ => (EReal.coe_mul _ _).symm).trans (map_sum f (fun t => a t * b t) Finset.univ).symm

/-- The product of a short row and a short column is at most 60 in size. -/
theorem inner_bound {n : ℕ} {u v : Fin n → EReal} (hu : inner u u ≤ (1600 : ℝ)) (hv : inner v v ≤ (9 / 4 : ℝ)) :
    ((-60 : ℝ) : EReal) ≤ inner u v ∧ inner u v ≤ ((60 : ℝ) : EReal) := by
  obtain ⟨a, rfl⟩ := real_of_square hu
  obtain ⟨b, rfl⟩ := real_of_square hv
  rw [inner_coe, EReal.coe_le_coe_iff] at hu hv
  rw [inner_coe, EReal.coe_le_coe_iff, EReal.coe_le_coe_iff]
  have hc := Finset.sum_mul_sq_le_sq_mul_sq Finset.univ a b
  have hp : (∑ t, a t * a t) * (∑ t, b t * b t) ≤ 1600 * (9 / 4) :=
    mul_le_mul hu hv (Finset.sum_nonneg fun t _ => mul_self_nonneg (b t)) (by norm_num)
  simp only [pow_two] at hc
  exact abs_le.mp (abs_le_of_sq_le_sq (by nlinarith [hc.trans hp]) (by norm_num))

/-- The quotient with the exponent's argument clipped at 60. -/
def clippedSilu (y : EReal) : EReal := Ideal.div y (1 + Ideal.exp (-(min ((60 : ℝ) : EReal) (max ((-60 : ℝ) : EReal) y))))

/-- Up to 60 the clip changes nothing. -/
theorem clipped_eq {y : EReal} (h : ((-60 : ℝ) : EReal) ≤ y ∧ y ≤ ((60 : ℝ) : EReal)) : clippedSilu y = silu y := by
  unfold clippedSilu silu
  rw [max_eq_right h.1, min_eq_right h.2]

end Cert.GatherProof

end
-- ==== Proof.Clipped.lean ====
/-
# The clipped reference

The reference with the clip of reference.py, and what the precondition says of the rows and columns of the two arrays: their
products are at most 60 in size, so both references have the same result.
-/
module

public import proofs.«01_k».proof.Proof.Value
public import proofs.«01_k».proof.Proof.Short
public import proofs.«01_k».proof.Proof.Gen.ClippedIdeal.Run
public import proofs.«01_k».proof.Proof.Gen.Pre_short_KernelIdeal
public import proofs.«01_k».proof.Proof.Gen.Pre_short_ClippedIdeal
public import Idealize.ShloMosaic.Lib.Pointwise.Reduce

@[expose] public section

noncomputable section

namespace Cert.GatherProof

open Idealize.ShloMosaic Idealize.ShloMosaic.TcCoe
open Idealize.SL.Sem

/-! ## The literals -/

theorem bits_60 : Ideal.ofBits .f32 0x42700000#32 = ((60 : ℝ) : EReal) := by
  simp [Ideal.ofBits, Ideal.ieee, -EReal.coe_mul]; norm_num
theorem bits_neg_60 : Ideal.ofBits .f32 0xC2700000#32 = ((-60 : ℝ) : EReal) := by
  simp [Ideal.ofBits, Ideal.ieee, -EReal.coe_mul]; norm_num
theorem bits_1600 : Ideal.ofBits .f32 0x44C80000#32 = ((1600 : ℝ) : EReal) := by
  simp [Ideal.ofBits, Ideal.ieee, -EReal.coe_mul]; norm_num
theorem bits_nine_quarters : Ideal.ofBits .f32 0x40100000#32 = ((9 / 4 : ℝ) : EReal) := by
  simp [Ideal.ofBits, Ideal.ieee, -EReal.coe_mul]; norm_num

/-! ## What the precondition says -/

theorem le_of_cmp {x y : EReal} (h : Ideal.cmp .ole x y = 1#1) : x ≤ y := by
  by_contra hn
  simp [Ideal.cmp, hn] at h

section Precondition
open Cert.Pre_short_KernelIdeal Cert.Pre_short_KernelIdeal.Gen

/-- Every row of a device's first block has a square of at most 1600. -/
theorem short_row {x : FVec Ideal S64x1024 .bf16} {w : FVec Ideal S1024x64 .bf16} (h : (fn (F := Ideal) x w).1 = fun _ => 1#1) (a : Fin 64) :
    inner (fun t : Fin 1024 => x (ValueIdx.ix2 a t)) (fun t => x (ValueIdx.ix2 a t)) ≤ ((1600 : ℝ) : EReal) := by
  have h1 := le_of_cmp (congrFun h (ValueIdx.ix1 a))
  rw [← bits_1600]
  refine le_trans (le_of_eq ?_) h1
  refine Eq.symm ((Ideal.hostReduceAdd_r2_a1 reducesTo_S64x1024_S64_d1 _ _ (ValueIdx.ix1 a)).trans ?_)
  show Ideal.ofBits .f32 0x00000000#32 + _ = _
  rw [Ideal.ofBits_zero_f32, zero_add]
  rfl

/-- Every column of a device's second block has a square of at most 9/4. -/
theorem short_column {x : FVec Ideal S64x1024 .bf16} {w : FVec Ideal S1024x64 .bf16} (h : (fn (F := Ideal) x w).2 = fun _ => 1#1) (b : Fin 64) :
    inner (fun t : Fin 1024 => w (ValueIdx.ix2 t b)) (fun t => w (ValueIdx.ix2 t b)) ≤ ((9 / 4 : ℝ) : EReal) := by
  have h1 := le_of_cmp (congrFun h (ValueIdx.ix1 b))
  rw [← bits_nine_quarters]
  refine le_trans (le_of_eq ?_) h1
  refine Eq.symm ((Ideal.hostReduceAdd_r2_a0 reducesTo_S1024x64_S64_d0 _ _ (ValueIdx.ix1 b)).trans ?_)
  show Ideal.ofBits .f32 0x00000000#32 + _ = _
  rw [Ideal.ofBits_zero_f32, zero_add]
  rfl

end Precondition

/-! ## What the clipped reference computes -/

section Run
open Cert.ClippedIdeal Cert.ClippedIdeal.Gen

/-- The clipped reference's result as a function of its arguments. -/
def clipOut (x w : S1024x1024.Idx → EReal) : S1024x1024.Idx → EReal := fun i =>
  clippedSilu (inner (fun t : Fin 1024 => x (ValueIdx.ix2 (i 0 : Fin 1024) t)) fun t => w (ValueIdx.ix2 t (i 1 : Fin 1024)))

/-- The operations of the clipped reference compute it. -/
theorem clip_eq (x w : FVec Ideal S1024x1024 .bf16) :
    Host.divf (Host.dotGeneral dot_S1024x1024_S1024x1024_S1024x1024_1_0_0_1_n_n none (extf .f32 x bitsLt_bf16_f32) (extf .f32 w bitsLt_bf16_f32))
      (addf (broadcastInDim S1024x1024 ![] bcast_S_S1024x1024 (constant S_ .f32 0x3F800000#32))
        (Host.exp (Host.negf (minimumf (broadcastInDim S1024x1024 ![] bcast_S_S1024x1024 (id (constant S_ .f32 0x42700000#32)))
          (maximumf (broadcastInDim S1024x1024 ![] bcast_S_S1024x1024 (id (constant S_ .f32 0xC2700000#32)))
            (Host.dotGeneral dot_S1024x1024_S1024x1024_S1024x1024_1_0_0_1_n_n none (extf .f32 x bitsLt_bf16_f32) (extf .f32 w bitsLt_bf16_f32)))))))
      = clipOut x w := by
  funext i
  have h : (Host.dotGeneral dot_S1024x1024_S1024x1024_S1024x1024_1_0_0_1_n_n none (extf .f32 x bitsLt_bf16_f32) (extf .f32 w bitsLt_bf16_f32)) i = _ :=
    ref_dot (extf .f32 x bitsLt_bf16_f32) (extf .f32 w bitsLt_bf16_f32) i
  generalize Host.dotGeneral dot_S1024x1024_S1024x1024_S1024x1024_1_0_0_1_n_n none (extf .f32 x bitsLt_bf16_f32) (extf .f32 w bitsLt_bf16_f32) = y at h ⊢
  show Ideal.div (y i) (Ideal.ofBits .f32 0x3F800000#32
    + Ideal.exp (-(min (Ideal.ofBits .f32 0x42700000#32) (max (Ideal.ofBits .f32 0xC2700000#32) (y i))))) = _
  rw [Ideal.ofBits_one_f32, bits_60, bits_neg_60, h]
  rfl

/-- The clipped reference's run: its result, its arguments and its counters. -/
theorem clip_run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v8) = clipOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (clip_eq _ _), (h c).2⟩) (Cert.ClippedIdeal.Value.run m ρ)

theorem frame_clip : Cert.quiescent_ClippedIdeal := fun m ρ _ =>
  (θ_run defs _ _).mono (fun r h => ⟨fun c => (h c).2, sem_eq_zero_of_no_sems (by decide) r.2⟩) (clip_run m ρ)

theorem frame_clip_short : Cert.quiescent_ClippedIdeal_pre_short_ClippedIdeal := fun m ρ _ => frame_clip m ρ trivial

end Run

/-! ## The equation -/

/-- From short rows and columns both references compute the same. -/
theorem clip_out_eq {x w : Cert.ReferenceIdeal.S1024x1024.Idx → EReal}
    (hx : ∀ d : Fin 16, ∀ a : Fin 64, inner (fun t : Fin 1024 => (Layout.block ⟨2, ![64, 1024]⟩ ⟨2, ![1024, 1024]⟩ 0 16 d x) (ValueIdx.ix2 a t))
      (fun t => (Layout.block ⟨2, ![64, 1024]⟩ ⟨2, ![1024, 1024]⟩ 0 16 d x) (ValueIdx.ix2 a t)) ≤ ((1600 : ℝ) : EReal))
    (hw : ∀ d : Fin 16, ∀ b : Fin 64, inner (fun t : Fin 1024 => (Layout.block ⟨2, ![1024, 64]⟩ ⟨2, ![1024, 1024]⟩ 1 16 d w) (ValueIdx.ix2 t b))
      (fun t => (Layout.block ⟨2, ![1024, 64]⟩ ⟨2, ![1024, 1024]⟩ 1 16 d w) (ValueIdx.ix2 t b)) ≤ ((9 / 4 : ℝ) : EReal)) :
    refOut x w = clipOut x w := by
  have split (r : Fin 1024) : (r : ℕ) / 64 * 64 + (r : ℕ) % 64 = r := Nat.div_add_mod' _ _
  have row (r t : Fin 1024) : (Layout.block ⟨2, ![64, 1024]⟩ ⟨2, ![1024, 1024]⟩ 0 16 (⟨(r : ℕ) / 64, by omega⟩ : Fin 16) x)
      (ValueIdx.ix2 (⟨(r : ℕ) % 64, Nat.mod_lt _ (by decide)⟩ : Fin 64) t) = x (ValueIdx.ix2 r t) := by
    refine congrArg x (funext fun a => Fin.ext ?_)
    fin_cases a
    · exact split r
    · rfl
  have column (t k : Fin 1024) : (Layout.block ⟨2, ![1024, 64]⟩ ⟨2, ![1024, 1024]⟩ 1 16 (⟨(k : ℕ) / 64, by omega⟩ : Fin 16) w)
      (ValueIdx.ix2 t (⟨(k : ℕ) % 64, Nat.mod_lt _ (by decide)⟩ : Fin 64)) = w (ValueIdx.ix2 t k) := by
    refine congrArg w (funext fun a => Fin.ext ?_)
    fin_cases a
    · rfl
    · exact split k
  funext i
  have h1 := hx ⟨((i 0 : Fin 1024) : ℕ) / 64, by have h : ((i 0 : Fin 1024) : ℕ) < 1024 := (i 0).isLt; omega⟩ ⟨((i 0 : Fin 1024) : ℕ) % 64, Nat.mod_lt _ (by decide)⟩
  have h2 := hw ⟨((i 1 : Fin 1024) : ℕ) / 64, by have h : ((i 1 : Fin 1024) : ℕ) < 1024 := (i 1).isLt; omega⟩ ⟨((i 1 : Fin 1024) : ℕ) % 64, Nat.mod_lt _ (by decide)⟩
  rw [funext fun t => row (i 0) t] at h1
  rw [funext fun t => column t (i 1)] at h2
  exact (clipped_eq (inner_bound h1 h2)).symm

theorem frame_ideal_short : Cert.quiescent_KernelIdeal_pre_short_KernelIdeal := fun m ρ _ => frame_ideal m ρ trivial

/-- From short rows and columns every device's result array ends holding its block of columns of the clipped reference's
    result. -/
theorem algebraic_clipped : Cert.algebraic_KernelIdeal_ClippedIdeal_pre_short_KernelIdeal := by
  intro m ρ m' ρ' hpre hagree
  refine ⟨clipOut (m' ((0 : Dev 1).tc.loc Cert.ClippedIdeal.main_arg0)) (m' ((0 : Dev 1).tc.loc Cert.ClippedIdeal.main_arg1)), ?_, ?_⟩
  · refine (θ_run Cert.KernelIdeal.defs _ _).mono (fun r h c => ⟨(h c).1.trans ?_, (h c).2⟩) (run_value (F := Ideal) m ρ)
    rw [show xIn m = _ from funext fun d => (xIn_eq m d).trans (hagree d).1, show wIn m = _ from funext fun d => (wIn_eq m d).trans (hagree d).2]
    refine (out_eq _ _ c).trans (congrArg (fun y => Layout.block ⟨2, ![1024, 64]⟩ ⟨2, ![1024, 1024]⟩ 1 16 c y) (clip_out_eq (fun d a => ?_) (fun d b => ?_)))
    · rw [← (hagree d).1]; exact short_row (hpre d).1 a
    · rw [← (hagree d).2]; exact short_column (hpre d).2 b
  · exact (θ_run Cert.ClippedIdeal.defs _ _).mono (fun r h => h 0) (clip_run m' ρ')

end Cert.GatherProof

end
-- ==== Proof.lean ====
/-
# The claim

The frames of the kernel and of the two references, and the equations between their results, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_short_KernelIdeal
public import proofs.«01_k».proof.Proof.Gen.Pre_short_ClippedIdeal
public import proofs.«01_k».proof.Proof.Value
public import proofs.«01_k».proof.Proof.Clipped
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ClippedIdeal.Gen.facts, Cert.Pre_short_KernelIdeal.Gen.facts, Cert.Pre_short_ClippedIdeal.Gen.facts,
  Cert.GatherProof.frame_kernel, Cert.GatherProof.frame_ideal, Cert.GatherProof.frame_ideal_short, Cert.GatherProof.frame_ref,
  Cert.GatherProof.frame_clip, Cert.GatherProof.frame_clip_short, trivial, Cert.GatherProof.algebraic,
  Cert.GatherProof.algebraic_clipped⟩

end Cert.Proof

end
